-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_WireIdeal (m : (ℓ : Loc Cert.WireIdeal.nD Cert.WireIdeal.τ Cert.WireIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_WireIdeal [hWireIdeal : Cert.WireIdeal.Facts] : Prop :=
  ∀ (m : (ℓ : Loc Cert.WireIdeal.nD Cert.WireIdeal.τ Cert.WireIdeal.sig) → Buf (Elt Ideal) ℓ) (g : Dev Cert.WireIdeal.nD → PrngReg), Pre_WireIdeal m →
    θ_run (Cert.WireIdeal.defs (F := Ideal)) (onTc (τ := Cert.WireIdeal.τ) (Cert.WireIdeal.main (F := Ideal))) ⟨m, fun _ => 0, g⟩ (fun r => (∀ c : Dev Cert.WireIdeal.nD,
      r.2.mem ((c.tc : Thread Cert.WireIdeal.nD Cert.WireIdeal.τ).loc Cert.WireIdeal.main_arg0) = m ((c.tc : Thread Cert.WireIdeal.nD Cert.WireIdeal.τ).loc Cert.WireIdeal.main_arg0)
      ∧ r.2.mem ((c.tc : Thread Cert.WireIdeal.nD Cert.WireIdeal.τ).loc Cert.WireIdeal.main_arg1) = m ((c.tc : Thread Cert.WireIdeal.nD Cert.WireIdeal.τ).loc Cert.WireIdeal.main_arg1)
      ∧ r.2.mem ((c.tc : Thread Cert.WireIdeal.nD Cert.WireIdeal.τ).loc Cert.WireIdeal.main_arg2) = m ((c.tc : Thread Cert.WireIdeal.nD Cert.WireIdeal.τ).loc Cert.WireIdeal.main_arg2)
      ∧ r.2.mem ((c.tc : Thread Cert.WireIdeal.nD Cert.WireIdeal.τ).loc Cert.WireIdeal.main_arg3) = m ((c.tc : Thread Cert.WireIdeal.nD Cert.WireIdeal.τ).loc Cert.WireIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_WireIdeal_on_exact_sums [hKernelIdeal : Cert.KernelIdeal.Facts] [hWireIdeal : Cert.WireIdeal.Facts] [hOn_exact_sums : Cert.On_exact_sums.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.WireIdeal.nD Cert.WireIdeal.τ Cert.WireIdeal.sig) → Buf (Elt Ideal) ℓ) (g' : Dev Cert.WireIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.WireIdeal.nD).tc : Thread Cert.WireIdeal.nD Cert.WireIdeal.τ).loc Cert.WireIdeal.main_arg0))
      ∧ m ((c.tc : Thread Cert.KernelIdeal.nD Cert.KernelIdeal.τ).loc Cert.KernelIdeal.main_arg1) = m' (((0 : Dev Cert.WireIdeal.nD).tc : Thread Cert.WireIdeal.nD Cert.WireIdeal.τ).loc Cert.WireIdeal.main_arg1)
      ∧ m ((c.tc : Thread Cert.KernelIdeal.nD Cert.KernelIdeal.τ).loc Cert.KernelIdeal.main_arg2) = m' (((0 : Dev Cert.WireIdeal.nD).tc : Thread Cert.WireIdeal.nD Cert.WireIdeal.τ).loc Cert.WireIdeal.main_arg2)
      ∧ m ((c.tc : Thread Cert.KernelIdeal.nD Cert.KernelIdeal.τ).loc Cert.KernelIdeal.main_arg3) = m' (((0 : Dev Cert.WireIdeal.nD).tc : Thread Cert.WireIdeal.nD Cert.WireIdeal.τ).loc Cert.WireIdeal.main_arg3)) →
    ∃ (v0 : Buf (Elt Ideal) (((0 : Dev Cert.WireIdeal.nD).tc : Thread Cert.WireIdeal.nD Cert.WireIdeal.τ).loc Cert.WireIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 512]⟩ : Shape).Idx, (Layout.block ⟨2, ![4096, 512]⟩ ⟨2, ![4096, 2048]⟩ 1 4 c ((Cert.On_exact_sums.fn (F := Ideal) (m' (((0 : Dev Cert.WireIdeal.nD).tc : Thread Cert.WireIdeal.nD Cert.WireIdeal.τ).loc Cert.WireIdeal.main_arg0)) (m' (((0 : Dev Cert.WireIdeal.nD).tc : Thread Cert.WireIdeal.nD Cert.WireIdeal.τ).loc Cert.WireIdeal.main_arg1)) (m' (((0 : Dev Cert.WireIdeal.nD).tc : Thread Cert.WireIdeal.nD Cert.WireIdeal.τ).loc Cert.WireIdeal.main_arg2)) (m' (((0 : Dev Cert.WireIdeal.nD).tc : Thread Cert.WireIdeal.nD Cert.WireIdeal.τ).loc Cert.WireIdeal.main_arg3)))) : (⟨2, ![4096, 512]⟩ : Shape).Idx → _) i = 1#1 → r.2.mem ((c.tc : Thread Cert.KernelIdeal.nD Cert.KernelIdeal.τ).loc Cert.KernelIdeal.main_v1) i = (Layout.block ⟨2, ![4096, 512]⟩ ⟨2, ![4096, 2048]⟩ 1 4 c v0 : (⟨2, ![4096, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.WireIdeal.defs (F := Ideal)) (onTc (τ := Cert.WireIdeal.τ) (Cert.WireIdeal.main (F := Ideal))) ⟨m', fun _ => 0, g'⟩ (fun r =>
          (∀ i : (⟨2, ![4096, 2048]⟩ : Shape).Idx, (Cert.On_exact_sums.fn (F := Ideal) (m' (((0 : Dev Cert.WireIdeal.nD).tc : Thread Cert.WireIdeal.nD Cert.WireIdeal.τ).loc Cert.WireIdeal.main_arg0)) (m' (((0 : Dev Cert.WireIdeal.nD).tc : Thread Cert.WireIdeal.nD Cert.WireIdeal.τ).loc Cert.WireIdeal.main_arg1)) (m' (((0 : Dev Cert.WireIdeal.nD).tc : Thread Cert.WireIdeal.nD Cert.WireIdeal.τ).loc Cert.WireIdeal.main_arg2)) (m' (((0 : Dev Cert.WireIdeal.nD).tc : Thread Cert.WireIdeal.nD Cert.WireIdeal.τ).loc Cert.WireIdeal.main_arg3))) i = 1#1 → r.2.mem (((0 : Dev Cert.WireIdeal.nD).tc : Thread Cert.WireIdeal.nD Cert.WireIdeal.τ).loc Cert.WireIdeal.main_v21) i = v0 i)
          ∧ r.2.mem (((0 : Dev Cert.WireIdeal.nD).tc : Thread Cert.WireIdeal.nD Cert.WireIdeal.τ).loc Cert.WireIdeal.main_arg0) = m' (((0 : Dev Cert.WireIdeal.nD).tc : Thread Cert.WireIdeal.nD Cert.WireIdeal.τ).loc Cert.WireIdeal.main_arg0)
          ∧ r.2.mem (((0 : Dev Cert.WireIdeal.nD).tc : Thread Cert.WireIdeal.nD Cert.WireIdeal.τ).loc Cert.WireIdeal.main_arg1) = m' (((0 : Dev Cert.WireIdeal.nD).tc : Thread Cert.WireIdeal.nD Cert.WireIdeal.τ).loc Cert.WireIdeal.main_arg1)
          ∧ r.2.mem (((0 : Dev Cert.WireIdeal.nD).tc : Thread Cert.WireIdeal.nD Cert.WireIdeal.τ).loc Cert.WireIdeal.main_arg2) = m' (((0 : Dev Cert.WireIdeal.nD).tc : Thread Cert.WireIdeal.nD Cert.WireIdeal.τ).loc Cert.WireIdeal.main_arg2)
          ∧ r.2.mem (((0 : Dev Cert.WireIdeal.nD).tc : Thread Cert.WireIdeal.nD Cert.WireIdeal.τ).loc Cert.WireIdeal.main_arg3) = m' (((0 : Dev Cert.WireIdeal.nD).tc : Thread Cert.WireIdeal.nD Cert.WireIdeal.τ).loc Cert.WireIdeal.main_arg3))

def algebraic_KernelIdeal_ReferenceIdeal_on_lossless [hKernelIdeal : Cert.KernelIdeal.Facts] [hReferenceIdeal : Cert.ReferenceIdeal.Facts] [hOn_lossless : Cert.On_lossless.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 512]⟩ : Shape).Idx, (Layout.block ⟨2, ![4096, 512]⟩ ⟨2, ![4096, 2048]⟩ 1 4 c ((Cert.On_lossless.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![4096, 512]⟩ : Shape).Idx → _) i = 1#1 → r.2.mem ((c.tc : Thread Cert.KernelIdeal.nD Cert.KernelIdeal.τ).loc Cert.KernelIdeal.main_v1) i = (Layout.block ⟨2, ![4096, 512]⟩ ⟨2, ![4096, 2048]⟩ 1 4 c v0 : (⟨2, ![4096, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 2048]⟩ : Shape).Idx, (Cert.On_lossless.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v8) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def holds_WireIdeal_half_a_step [hWireIdeal : Cert.WireIdeal.Facts] [hPost_half_a_step : Cert.Post_half_a_step.Facts] : Prop :=
  ∀ (m : (ℓ : Loc Cert.WireIdeal.nD Cert.WireIdeal.τ Cert.WireIdeal.sig) → Buf (Elt Ideal) ℓ) (g : Dev Cert.WireIdeal.nD → PrngReg), Pre_WireIdeal m →
    θ_run (Cert.WireIdeal.defs (F := Ideal)) (onTc (τ := Cert.WireIdeal.τ) (Cert.WireIdeal.main (F := Ideal))) ⟨m, fun _ => 0, g⟩ (fun r => ∀ c : Dev Cert.WireIdeal.nD,
      r.2.mem ((c.tc : Thread Cert.WireIdeal.nD Cert.WireIdeal.τ).loc Cert.WireIdeal.main_arg0) = m ((c.tc : Thread Cert.WireIdeal.nD Cert.WireIdeal.τ).loc Cert.WireIdeal.main_arg0)
      ∧ r.2.mem ((c.tc : Thread Cert.WireIdeal.nD Cert.WireIdeal.τ).loc Cert.WireIdeal.main_arg1) = m ((c.tc : Thread Cert.WireIdeal.nD Cert.WireIdeal.τ).loc Cert.WireIdeal.main_arg1)
      ∧ r.2.mem ((c.tc : Thread Cert.WireIdeal.nD Cert.WireIdeal.τ).loc Cert.WireIdeal.main_arg2) = m ((c.tc : Thread Cert.WireIdeal.nD Cert.WireIdeal.τ).loc Cert.WireIdeal.main_arg2)
      ∧ r.2.mem ((c.tc : Thread Cert.WireIdeal.nD Cert.WireIdeal.τ).loc Cert.WireIdeal.main_arg3) = m ((c.tc : Thread Cert.WireIdeal.nD Cert.WireIdeal.τ).loc Cert.WireIdeal.main_arg3)
      ∧ (Cert.Post_half_a_step.fn (F := Ideal) (m ((c.tc : Thread Cert.WireIdeal.nD Cert.WireIdeal.τ).loc Cert.WireIdeal.main_arg0)) (m ((c.tc : Thread Cert.WireIdeal.nD Cert.WireIdeal.τ).loc Cert.WireIdeal.main_arg1)) (m ((c.tc : Thread Cert.WireIdeal.nD Cert.WireIdeal.τ).loc Cert.WireIdeal.main_arg2)) (m ((c.tc : Thread Cert.WireIdeal.nD Cert.WireIdeal.τ).loc Cert.WireIdeal.main_arg3)) (r.2.mem ((c.tc : Thread Cert.WireIdeal.nD Cert.WireIdeal.τ).loc Cert.WireIdeal.main_v21))) = (fun _ => 1#1))

def Claim : Prop :=
  ∃ (hKernel : Cert.Kernel.Facts) (hKernelIdeal : Cert.KernelIdeal.Facts) (hWireIdeal : Cert.WireIdeal.Facts) (hReferenceIdeal : Cert.ReferenceIdeal.Facts) (hPost_half_a_step : Cert.Post_half_a_step.Facts) (hOn_exact_sums : Cert.On_exact_sums.Facts) (hOn_lossless : Cert.On_lossless.Facts),
    quiescent_Kernel (hKernel := hKernel)
    ∧ quiescent_KernelIdeal (hKernelIdeal := hKernelIdeal)
    ∧ quiescent_WireIdeal (hWireIdeal := hWireIdeal)
    ∧ quiescent_ReferenceIdeal (hReferenceIdeal := hReferenceIdeal)
    ∧ preserves_Kernel_KernelIdeal
    ∧ algebraic_KernelIdeal_WireIdeal_on_exact_sums (hKernelIdeal := hKernelIdeal) (hWireIdeal := hWireIdeal) (hOn_exact_sums := hOn_exact_sums)
    ∧ algebraic_KernelIdeal_ReferenceIdeal_on_lossless (hKernelIdeal := hKernelIdeal) (hReferenceIdeal := hReferenceIdeal) (hOn_lossless := hOn_lossless)
    ∧ holds_WireIdeal_half_a_step (hWireIdeal := hWireIdeal) (hPost_half_a_step := hPost_half_a_step)
-- ==== On_exact_sums.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩

class Facts : Prop where
  natLt_8_32 : 8 < 32
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : IVec S4096x4096 8) (main_arg1 : IVec S4096x2048 8) (main_arg2 : FVec F S1 .f32) (main_arg3 : FVec F S1 .f32) : IVec S4096x2048 1 :=
  let main_v0 : IVec S4096x4096 32 := (extsi 32 · natLt_8_32) main_arg0
  let main_v1 : FVec F S4096x4096 .f32 := sitofp .f32 main_v0
  let main_v2 : FVec F S4096x4096 .f32 := Host.absf main_v1
  let main_v3 : IVec S4096x2048 32 := (extsi 32 · natLt_8_32) main_arg1
  let main_v4 : FVec F S4096x2048 .f32 := sitofp .f32 main_v3
  let main_v5 : FVec F S4096x2048 .f32 := Host.absf main_v4
  let main_v6 : FVec F S4096x2048 .f32 := (fun l r => Host.dotGeneral dot_S4096x4096_S4096x2048_S4096x2048_1_0_0_1_n_n none l r) main_v2 main_v5
  let main_cst : FVec F S_ .f32 := constant S_ .f32 0x4B800000#32
  let main_v7 : FVec F S4096x2048 .f32 := broadcastInDim S4096x2048 ![] bcast_S_S4096x2048 main_cst
  let main_v8 : IVec S4096x2048 1 := cmpf .olt main_v6 main_v7
  main_v8
-- ==== On_lossless.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩

class Facts : Prop where
  natLt_8_32 : 8 < 32
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn_where {F : FTy → Type} [FloatOps F] (arg0 : IVec S4096x2048 1) (arg1 : IVec S4096x2048 32) (arg2 : IVec S4096x2048 32) : IVec S4096x2048 32 :=
  let v0 : IVec S4096x2048 32 := select arg0 arg1 arg2
  v0

def fn_floor_divide {F : FTy → Type} [FloatOps F] (arg0 : IVec S4096x2048 32) (arg1 : IVec S_ 32) : IVec S4096x2048 32 :=
  let v0 : IVec S_ 32 := id arg1
  let v1 : IVec S4096x2048 32 := broadcastInDim S4096x2048 ![] bcast_S_S4096x2048 v0
  let v2 : IVec S4096x2048 32 := Host.divsi arg0 v1
  let v3 : IVec S4096x2048 32 := signi arg0
  let v4 : IVec S_ 32 := signi v0
  let v5 : IVec S4096x2048 32 := broadcastInDim S4096x2048 ![] bcast_S_S4096x2048 v4
  let v6 : IVec S4096x2048 1 := cmpi .ne v3 v5
  let v7 : IVec S4096x2048 32 := broadcastInDim S4096x2048 ![] bcast_S_S4096x2048 v0
  let v8 : IVec S4096x2048 32 := Host.remsi arg0 v7
  let c : IVec S_ 32 := constantI S_ 32 0#32
  let v9 : IVec S4096x2048 32 := broadcastInDim S4096x2048 ![] bcast_S_S4096x2048 c
  let v10 : IVec S4096x2048 1 := cmpi .ne v8 v9
  let v11 : IVec S4096x2048 1 := andi v6 v10
  let c_0 : IVec S_ 32 := constantI S_ 32 1#32
  let v12 : IVec S4096x2048 32 := broadcastInDim S4096x2048 ![] bcast_S_S4096x2048 c_0
  let v13 : IVec S4096x2048 32 := subi v2 v12
  let v14 : IVec S4096x2048 32 := fn_where (F := F) v11 v13 v2
  v14

def fn_part1 {F : FTy → Type} [FloatOps F] (main_v10 : IVec S4096x2048 1) (main_v19 : IVec S4096x2048 1) (main_v20 : IVec S4096x2048 32) : IVec S4096x2048 1 :=
  let main_v21 : IVec S4096x2048 32 := iotaInDim S4096x2048 32 1
  let main_c : IVec S_ 32 := constantI S_ 32 1024#32
  let main_v22 : IVec S4096x2048 32 := fn_floor_divide (F := F) main_v20 main_c
  let main_c_2 : IVec S_ 32 := constantI S_ 32 512#32
  let main_v23 : IVec S4096x2048 32 := fn_floor_divide (F := F) main_v21 main_c_2
  let main_v24 : IVec S4096x2048 1 := cmpi .eq main_v22 main_v23
  let main_v25 : IVec S4096x2048 1 := ori main_v24 main_v10
  let main_v26 : IVec S4096x2048 1 := andi main_v19 main_v25
  main_v26

def fn {F : FTy → Type} [FloatOps F] (main_arg0 : IVec S4096x4096 8) (main_arg1 : IVec S4096x2048 8) (main_arg2 : FVec F S1 .f32) (main_arg3 : FVec F S1 .f32) : IVec S4096x2048 1 :=
  let main_v0 : IVec S4096x4096 32 := (extsi 32 · natLt_8_32) main_arg0
  let main_v1 : FVec F S4096x4096 .f32 := sitofp .f32 main_v0
  let main_v2 : IVec S4096x2048 32 := (extsi 32 · natLt_8_32) main_arg1
  let main_v3 : FVec F S4096x2048 .f32 := sitofp .f32 main_v2
  let main_v4 : FVec F S4096x2048 .f32 := (fun l r => Host.dotGeneral dot_S4096x4096_S4096x2048_S4096x2048_1_0_0_1_n_n none l r) main_v1 main_v3
  let main_cst : FVec F S_ .f32 := constant S_ .f32 0x45000000#32
  let main_v5 : FVec F S4096x2048 .f32 := broadcastInDim S4096x2048 ![] bcast_S_S4096x2048 main_cst
  let main_v6 : FVec F S4096x2048 .f32 := Host.divf main_v4 main_v5
  let main_v7 : FVec F S4096x2048 .f32 := Host.floor main_v6
  let main_cst_0 : FVec F S_ .f32 := constant S_ .f32 0x45000000#32
  let main_v8 : FVec F S4096x2048 .f32 := broadcastInDim S4096x2048 ![] bcast_S_S4096x2048 main_cst_0
  let main_v9 : FVec F S4096x2048 .f32 := mulf main_v8 main_v7
  let main_v10 : IVec S4096x2048 1 := cmpf .oeq main_v4 main_v9
  let main_v11 : IVec S4096x4096 32 := (extsi 32 · natLt_8_32) main_arg0
  let main_v12 : FVec F S4096x4096 .f32 := sitofp .f32 main_v11
  let main_v13 : FVec F S4096x4096 .f32 := Host.absf main_v12
  let main_v14 : IVec S4096x2048 32 := (extsi 32 · natLt_8_32) main_arg1
  let main_v15 : FVec F S4096x2048 .f32 := sitofp .f32 main_v14
  let main_v16 : FVec F S4096x2048 .f32 := Host.absf main_v15
  let main_v17 : FVec F S4096x2048 .f32 := (fun l r => Host.dotGeneral dot_S4096x4096_S4096x2048_S4096x2048_1_0_0_1_n_n none l r) main_v13 main_v16
  let main_cst_1 : FVec F S_ .f32 := constant S_ .f32 0x4B800000#32
  let main_v18 : FVec F S4096x2048 .f32 := broadcastInDim S4096x2048 ![] bcast_S_S4096x2048 main_cst_1
  let main_v19 : IVec S4096x2048 1 := cmpf .olt main_v17 main_v18
  let main_v20 : IVec S4096x2048 32 := iotaInDim S4096x2048 32 0
  fn_part1 (F := F) main_v10 main_v19 main_v20
-- ==== Post_half_a_step.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

class Facts : Prop where
  natLt_8_32 : 8 < 32
  bcast_S1_S1x1_1 : S1.BroadcastsInDim S1x1 (![1] : Fin 1 → Fin S1x1.rank)
  bcast_S1x1_S4096x2048_0_1 : S1x1.BroadcastsInDim S4096x2048 (![0, 1] : Fin 2 → Fin S4096x2048.rank)
  bcast_S_S1 : S_.BroadcastsInDim S1 (![] : Fin 0 → Fin S1.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : IVec S4096x4096 8) (main_arg1 : IVec S4096x2048 8) (main_arg2 : FVec F S1 .f32) (main_arg3 : FVec F S1 .f32) (main_arg4 : FVec F S4096x2048 .f32) : IVec S4096x2048 1 :=
  let main_v0 : IVec S4096x4096 32 := (extsi 32 · natLt_8_32) main_arg0
  let main_v1 : FVec F S4096x4096 .f32 := sitofp .f32 main_v0
  let main_v2 : IVec S4096x2048 32 := (extsi 32 · natLt_8_32) main_arg1
  let main_v3 : FVec F S4096x2048 .f32 := sitofp .f32 main_v2
  let main_v4 : FVec F S4096x2048 .f32 := (fun l r => Host.dotGeneral dot_S4096x4096_S4096x2048_S4096x2048_1_0_0_1_n_n none l r) main_v1 main_v3
  let main_v5 : FVec F S1 .f32 := mulf main_arg2 main_arg3
  let main_v6 : FVec F S1x1 .f32 := broadcastInDim S1x1 ![1] bcast_S1_S1x1_1 main_v5
  let main_v7 : FVec F S4096x2048 .f32 := broadcastInDim S4096x2048 ![0, 1] bcast_S1x1_S4096x2048_0_1 main_v6
  let main_v8 : FVec F S4096x2048 .f32 := mulf main_v4 main_v7
  let main_v9 : FVec F S4096x2048 .f32 := subf main_arg4 main_v8
  let main_v10 : FVec F S4096x2048 .f32 := Host.absf main_v9
  let main_v11 : FVec F S1 .f32 := Host.absf main_v5
  let main_cst : FVec F S_ .f32 := constant S_ .f32 0x44800000#32
  let main_v12 : FVec F S1 .f32 := broadcastInDim S1 ![] bcast_S_S1 main_cst
  let main_v13 : FVec F S1 .f32 := mulf main_v12 main_v11
  let main_v14 : FVec F S1x1 .f32 := broadcastInDim S1x1 ![1] bcast_S1_S1x1_1 main_v13
  let main_v15 : FVec F S4096x2048 .f32 := broadcastInDim S4096x2048 ![0, 1] bcast_S1x1_S4096x2048_0_1 main_v14
  let main_v16 : IVec S4096x2048 1 := cmpf .ole main_v10 main_v15
  main_v16
-- ==== Kernel.lean ====
abbrev S1024x4096 : Shape := ⟨2, ![1024, 4096]⟩
abbrev S4096x2048 : Shape := ⟨2, ![4096, 2048]⟩
abbrev S1 : Shape := ⟨1, ![1]⟩
abbrev S4096x512 : Shape := ⟨2, ![4096, 512]⟩
abbrev S4x4096x512 : Shape := ⟨3, ![4, 4096, 512]⟩
abbrev S3x1024x512 : Shape := ⟨3, ![3, 1024, 512]⟩
abbrev S4x1024x512 : Shape := ⟨3, ![4, 1024, 512]⟩
abbrev S5 : Shape := ⟨1, ![5]⟩
abbrev S4 : Shape := ⟨1, ![4]⟩
abbrev S3 : Shape := ⟨1, ![3]⟩
abbrev S_ : Shape := ⟨0, ![]⟩
abbrev S1x4096x512 : Shape := ⟨3, ![1, 4096, 512]⟩
abbrev S1024x512 : Shape := ⟨2, ![1024, 512]⟩
abbrev S1x1024x512 : Shape := ⟨3, ![1, 1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S1, .f32⟩
  | .local _ .vmem, ⟨1, _⟩ => ⟨S1, .f32⟩
  | .local _ .vmem, ⟨2, _⟩ => ⟨S1024x4096, .i8⟩
  | .local _ .vmem, ⟨3, _⟩ => ⟨S4x4096x512, .i8⟩
  | .local _ .vmem, ⟨4, _⟩ => ⟨S3x1024x512, .i16⟩
  | .local _ .vmem, ⟨5, _⟩ => ⟨S3x1024x512, .i16⟩
  | .local _ .vmem, ⟨6, _⟩ => ⟨S4x1024x512, .f32⟩
  | _, _ => ⟨S1024x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let v6 : BitVec 32 := Scalar.addi v5 c0_i32
  let c4_i32_2 : BitVec 32 := 4#32
  let c0_i32_3 : BitVec 32 := 0#32
  let v7 : BitVec 1 := Scalar.cmpi .eq c4_i32_2 c0_i32_3
  let c1_i32_4 : BitVec 32 := 1#32
  let v8 : BitVec 32 := Scalar.select v7 c1_i32_4 c4_i32_2
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c512_i32 : BitVec 32 := 512#32
  let v17 : BitVec 32 := Scalar.muli v16 c512_i32
  ![0, v17.toNat]
def k0_dev1 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_53 : BitVec 32 := 1#32
  let v78 : BitVec 32 := Scalar.addi v2 c1_i32_53
  let c4_i32_54 : BitVec 32 := 4#32
  let c0_i32_55 : BitVec 32 := 0#32
  let v79 : BitVec 1 := Scalar.cmpi .eq c4_i32_54 c0_i32_55
  let c1_i32_56 : BitVec 32 := 1#32
  let v80 : BitVec 32 := Scalar.select v79 c1_i32_56 c4_i32_54
  let v81 : BitVec 32 := Scalar.remsi v78 v80
  let c0_i32_58 : BitVec 32 := 0#32
  let v83 : BitVec 1 := Scalar.cmpi .slt v81 c0_i32_58
  let c0_i32_59 : BitVec 32 := 0#32
  let v84 : BitVec 1 := Scalar.cmpi .slt v80 c0_i32_59
  let v85 : BitVec 1 := Scalar.xori v83 v84
  let c0_i32_57 : BitVec 32 := 0#32
  let v82 : BitVec 1 := Scalar.cmpi .ne v81 c0_i32_57
  let v86 : BitVec 1 := Scalar.andi v85 v82
  let v87 : BitVec 32 := Scalar.addi v81 v80
  let v88 : BitVec 32 := Scalar.select v86 v87 v81
  let c1_i32_61 : BitVec 32 := 1#32
  let v89 : BitVec 32 := Scalar.muli v88 c1_i32_61
  let v90 : BitVec 32 := Scalar.addi c0_i32_62 v89
  v90.toNat
def k0_dev2 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_63 : BitVec 32 := 2#32
  let v91 : BitVec 32 := Scalar.addi v2 c2_i32_63
  let c4_i32_64 : BitVec 32 := 4#32
  let c0_i32_65 : BitVec 32 := 0#32
  let v92 : BitVec 1 := Scalar.cmpi .eq c4_i32_64 c0_i32_65
  let c1_i32_66 : BitVec 32 := 1#32
  let v93 : BitVec 32 := Scalar.select v92 c1_i32_66 c4_i32_64
  let v94 : BitVec 32 := Scalar.remsi v91 v93
  let c0_i32_68 : BitVec 32 := 0#32
  let v96 : BitVec 1 := Scalar.cmpi .slt v94 c0_i32_68
  let c0_i32_69 : BitVec 32 := 0#32
  let v97 : BitVec 1 := Scalar.cmpi .slt v93 c0_i32_69
  let v98 : BitVec 1 := Scalar.xori v96 v97
  let c0_i32_67 : BitVec 32 := 0#32
  let v95 : BitVec 1 := Scalar.cmpi .ne v94 c0_i32_67
  let v99 : BitVec 1 := Scalar.andi v98 v95
  let v100 : BitVec 32 := Scalar.addi v94 v93
  let v101 : BitVec 32 := Scalar.select v99 v100 v94
  let c1_i32_71 : BitVec 32 := 1#32
  let v102 : BitVec 32 := Scalar.muli v101 c1_i32_71
  let v103 : BitVec 32 := Scalar.addi c0_i32_72 v102
  v103.toNat
def k0_dev3 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_73 : BitVec 32 := 3#32
  let v104 : BitVec 32 := Scalar.addi v2 c3_i32_73
  let c4_i32_74 : BitVec 32 := 4#32
  let c0_i32_75 : BitVec 32 := 0#32
  let v105 : BitVec 1 := Scalar.cmpi .eq c4_i32_74 c0_i32_75
  let c1_i32_76 : BitVec 32 := 1#32
  let v106 : BitVec 32 := Scalar.select v105 c1_i32_76 c4_i32_74
  let v107 : BitVec 32 := Scalar.remsi v104 v106
  let c0_i32_78 : BitVec 32 := 0#32
  let v109 : BitVec 1 := Scalar.cmpi .slt v107 c0_i32_78
  let c0_i32_79 : BitVec 32 := 0#32
  let v110 : BitVec 1 := Scalar.cmpi .slt v106 c0_i32_79
  let v111 : BitVec 1 := Scalar.xori v109 v110
  let c0_i32_77 : BitVec 32 := 0#32
  let v108 : BitVec 1 := Scalar.cmpi .ne v107 c0_i32_77
  let v112 : BitVec 1 := Scalar.andi v111 v108
  let v113 : BitVec 32 := Scalar.addi v107 v106
  let v114 : BitVec 32 := Scalar.select v112 v113 v107
  let c1_i32_81 : BitVec 32 := 1#32
  let v115 : BitVec 32 := Scalar.muli v114 c1_i32_81
  let v116 : BitVec 32 := Scalar.addi c0_i32_82 v115
  v116.toNat
def k0_dev4 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_101 : BitVec 32 := 1#32
  let v143 : BitVec 32 := Scalar.addi v2 c1_i32_101
  let c4_i32_102 : BitVec 32 := 4#32
  let c0_i32_103 : BitVec 32 := 0#32
  let v144 : BitVec 1 := Scalar.cmpi .eq c4_i32_102 c0_i32_103
  let c1_i32_104 : BitVec 32 := 1#32
  let v145 : BitVec 32 := Scalar.select v144 c1_i32_104 c4_i32_102
  let v146 : BitVec 32 := Scalar.remsi v143 v145
  let c0_i32_106 : BitVec 32 := 0#32
  let v148 : BitVec 1 := Scalar.cmpi .slt v146 c0_i32_106
  let c0_i32_107 : BitVec 32 := 0#32
  let v149 : BitVec 1 := Scalar.cmpi .slt v145 c0_i32_107
  let v150 : BitVec 1 := Scalar.xori v148 v149
  let c0_i32_105 : BitVec 32 := 0#32
  let v147 : BitVec 1 := Scalar.cmpi .ne v146 c0_i32_105
  let v151 : BitVec 1 := Scalar.andi v150 v147
  let v152 : BitVec 32 := Scalar.addi v146 v145
  let v153 : BitVec 32 := Scalar.select v151 v152 v146
  let c1_i32_112 : BitVec 32 := 1#32
  let v154 : BitVec 32 := Scalar.muli v153 c1_i32_112
  let v155 : BitVec 32 := Scalar.addi c0_i32_113 v154
  v155.toNat
def k0_dev5 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_134 : BitVec 32 := 2#32
  let v183 : BitVec 32 := Scalar.addi v2 c2_i32_134
  let c4_i32_135 : BitVec 32 := 4#32
  let c0_i32_136 : BitVec 32 := 0#32
  let v184 : BitVec 1 := Scalar.cmpi .eq c4_i32_135 c0_i32_136
  let c1_i32_137 : BitVec 32 := 1#32
  let v185 : BitVec 32 := Scalar.select v184 c1_i32_137 c4_i32_135
  let v186 : BitVec 32 := Scalar.remsi v183 v185
  let c0_i32_139 : BitVec 32 := 0#32
  let v188 : BitVec 1 := Scalar.cmpi .slt v186 c0_i32_139
  let c0_i32_140 : BitVec 32 := 0#32
  let v189 : BitVec 1 := Scalar.cmpi .slt v185 c0_i32_140
  let v190 : BitVec 1 := Scalar.xori v188 v189
  let c0_i32_138 : BitVec 32 := 0#32
  let v187 : BitVec 1 := Scalar.cmpi .ne v186 c0_i32_138
  let v191 : BitVec 1 := Scalar.andi v190 v187
  let v192 : BitVec 32 := Scalar.addi v186 v185
  let v193 : BitVec 32 := Scalar.select v191 v192 v186
  let c1_i32_145 : BitVec 32 := 1#32
  let v194 : BitVec 32 := Scalar.muli v193 c1_i32_145
  let v195 : BitVec 32 := Scalar.addi c0_i32_146 v194
  v195.toNat
def k0_dev6 (d0 : Dev nD) : Nat :=
  let c0_i32_179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_167 : BitVec 32 := 3#32
  let v223 : BitVec 32 := Scalar.addi v2 c3_i32_167
  let c4_i32_168 : BitVec 32 := 4#32
  let c0_i32_169 : BitVec 32 := 0#32
  let v224 : BitVec 1 := Scalar.cmpi .eq c4_i32_168 c0_i32_169
  let c1_i32_170 : BitVec 32 := 1#32
  let v225 : BitVec 32 := Scalar.select v224 c1_i32_170 c4_i32_168
  let v226 : BitVec 32 := Scalar.remsi v223 v225
  let c0_i32_172 : BitVec 32 := 0#32
  let v228 : BitVec 1 := Scalar.cmpi .slt v226 c0_i32_172
  let c0_i32_173 : BitVec 32 := 0#32
  let v229 : BitVec 1 := Scalar.cmpi .slt v225 c0_i32_173
  let v230 : BitVec 1 := Scalar.xori v228 v229
  let c0_i32_171 : BitVec 32 := 0#32
  let v227 : BitVec 1 := Scalar.cmpi .ne v226 c0_i32_171
  let v231 : BitVec 1 := Scalar.andi v230 v227
  let v232 : BitVec 32 := Scalar.addi v226 v225
  let v233 : BitVec 32 := Scalar.select v231 v232 v226
  let c1_i32_178 : BitVec 32 := 1#32
  let v234 : BitVec 32 := Scalar.muli v233 c1_i32_178
  let v235 : BitVec 32 := Scalar.addi c0_i32_179 v234
  v235.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v259 : BitVec 32 := Scalar.muli v2 c1024_i32
  let c0_i32_199 : BitVec 32 := 0#32
  ![v259.toNat, 0]
def k0_off3 (d0 : Dev nD) (c1_i32_202 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v265 : BitVec 32 := Scalar.subi v2 c1_i32_202
  let c4_i32_203 : BitVec 32 := 4#32
  let c0_i32_204 : BitVec 32 := 0#32
  let v266 : BitVec 1 := Scalar.cmpi .eq c4_i32_203 c0_i32_204
  let c1_i32_205 : BitVec 32 := 1#32
  let v267 : BitVec 32 := Scalar.select v266 c1_i32_205 c4_i32_203
  let v268 : BitVec 32 := Scalar.remsi v265 v267
  let c0_i32_207 : BitVec 32 := 0#32
  let v270 : BitVec 1 := Scalar.cmpi .slt v268 c0_i32_207
  let c0_i32_208 : BitVec 32 := 0#32
  let v271 : BitVec 1 := Scalar.cmpi .slt v267 c0_i32_208
  let v272 : BitVec 1 := Scalar.xori v270 v271
  let c0_i32_206 : BitVec 32 := 0#32
  let v269 : BitVec 1 := Scalar.cmpi .ne v268 c0_i32_206
  let v273 : BitVec 1 := Scalar.andi v272 v269
  let v274 : BitVec 32 := Scalar.addi v268 v267
  let v275 : BitVec 32 := Scalar.select v273 v274 v268
  let c1024_i32_233 : BitVec 32 := 1024#32
  let v304 : BitVec 32 := Scalar.muli v275 c1024_i32_233
  let c0_i32_236 : BitVec 32 := 0#32
  ![v304.toNat, 0]
abbrev stage0_0 : Fin 1 → Memref sig .tc .vmem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== WireIdeal.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩
abbrev S1x1 : Shape := ⟨2, ![1, 1]⟩

abbrev nBuf : Space → Nat
  | .hbm => 63
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .i32⟩
  | .hbm, ⟨17, _⟩ => ⟨S4096x2048, .i32⟩
  | .hbm, ⟨18, _⟩ => ⟨S_, .i32⟩
  | .hbm, ⟨19, _⟩ => ⟨S_, .i32⟩
  | .hbm, ⟨20, _⟩ => ⟨S4096x2048, .i32⟩
  | .hbm, ⟨21, _⟩ => ⟨S4096x2048, .i32⟩
  | .hbm, ⟨22, _⟩ => ⟨S4096x2048, .i32⟩
  | .hbm, ⟨23, _⟩ => ⟨S_, .i32⟩
  | .hbm, ⟨24, _⟩ => ⟨S4096x2048, .i32⟩
  | .hbm, ⟨25, _⟩ => ⟨S4096x2048, .i1⟩
  | .hbm, ⟨26, _⟩ => ⟨S4096x2048, .i32⟩
  | .hbm, ⟨27, _⟩ => ⟨S4096x2048, .i32⟩
  | .hbm, ⟨28, _⟩ => ⟨S_, .i32⟩
  | .hbm, ⟨29, _⟩ => ⟨S4096x2048, .i32⟩
  | .hbm, ⟨30, _⟩ => ⟨S4096x2048, .i1⟩
  | .hbm, ⟨31, _⟩ => ⟨S4096x2048, .i1⟩
  | .hbm, ⟨32, _⟩ => ⟨S_, .i32⟩
  | .hbm, ⟨33, _⟩ => ⟨S4096x2048, .i32⟩
  | .hbm, ⟨34, _⟩ => ⟨S4096x2048, .i32⟩
  | .hbm, ⟨35, _⟩ => ⟨S4096x2048, .i32⟩
  | .hbm, ⟨36, _⟩ => ⟨S_, .i32⟩
  | .hbm, ⟨37, _⟩ => ⟨S_, .i32⟩
  | .hbm, ⟨38, _⟩ => ⟨S4096x2048, .i32⟩
  | .hbm, ⟨39, _⟩ => ⟨S4096x2048, .i32⟩
  | .hbm, ⟨40, _⟩ => ⟨S4096x2048, .i32⟩
  | .hbm, ⟨41, _⟩ => ⟨S_, .i32⟩
  | .hbm, ⟨42, _⟩ => ⟨S4096x2048, .i32⟩
  | .hbm, ⟨43, _⟩ => ⟨S4096x2048, .i1⟩
  | .hbm, ⟨44, _⟩ => ⟨S4096x2048, .i32⟩
  | .hbm, ⟨45, _⟩ => ⟨S4096x2048, .i32⟩
  | .hbm, ⟨46, _⟩ => ⟨S_, .i32⟩
  | .hbm, ⟨47, _⟩ => ⟨S4096x2048, .i32⟩
  | .hbm, ⟨48, _⟩ => ⟨S4096x2048, .i1⟩
  | .hbm, ⟨49, _⟩ => ⟨S4096x2048, .i1⟩
  | .hbm, ⟨50, _⟩ => ⟨S_, .i32⟩
  | .hbm, ⟨51, _⟩ => ⟨S4096x2048, .i32⟩
  | .hbm, ⟨52, _⟩ => ⟨S4096x2048, .i32⟩
  | .hbm, ⟨53, _⟩ => ⟨S4096x2048, .i32⟩
  | .hbm, ⟨54, _⟩ => ⟨S4096x2048, .i1⟩
  | .hbm, ⟨55, _⟩ => ⟨S_, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S1, .f32⟩
  | .hbm, ⟨60, _⟩ => ⟨S1x1, .f32⟩
  | .hbm, ⟨61, _⟩ => ⟨S4096x2048, .f32⟩
  | .hbm, ⟨62, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v12 : Ref sig .tc := ⟨.hbm, 35, rfl⟩
abbrev main_c_1 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v13 : Ref sig .tc := ⟨.hbm, 53, rfl⟩
abbrev main_v14 : Ref sig .tc := ⟨.hbm, 54, rfl⟩
abbrev main_cst_2 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩

abbrev nD : Nat := 1
abbrev τ : Topo := Topo.v7x

variable {F : FTy → Type} [FloatOps F]
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Protocol.lean ====
/-
# The schedule of the four-device kernel

Every device multiplies its 1024 rows of `x` by the four column blocks of `w`. The product with its own columns stays;
the other three travel, rounded to sixteen bits, to the devices whose columns they are. Device `c` sends its `k`-th
product (`k = 0, 1, 2`) to `fw c k`, the device `k + 1` places ahead, and receives its `k`-th from `bk c k`.

The semaphores between devices, per device `c`, all with one round:

* the BARRIER semaphore, waited once for 3: three duties, duty `k` paid by `fw c k` with one unit; that signal hands `c`
  the landing slot `k` of `fw c k`, at whatever it holds, and the fact that `fw c k` is at round 0 of its receive cell `k`;
* SEND cell `k`, raised by the departure of `c`'s own transfer `k`: hands `c` its send slot `k` back;
* RECEIVE cell `k`, raised by the arrival of the transfer of `bk c k`: hands `c` its landing slot `k`, at what
  `bk c k` sent (`sent (bk c k) k`, left abstract here).

Order: local copies start; three signals; the barrier wait; the three sends, each owed its arrival's credit until it is
issued; then receive, send waits. Barrier cells are at level 1, receive cells at 2, everything else at 0.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Wire

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging library's rounds, the devices' rounds, the local transfers' counters -/

abbrev UD : Type := URounds (GSem nD τ sig) (Fin 3)
abbrev UU : Type := UR sig nD τ × (UD × Counters)

local notation "𝕄" => MT nD τ sig Unit (Elt F) ℕ UU ℕ

abbrev EP : Emb (UR sig nD τ) (MT nD τ sig Unit (Elt F) ℕ UU ℕ) := embL
/-- The devices' rounds: the middle factor. -/
def ER : Emb UD (MT nD τ sig Unit (Elt F) ℕ UU ℕ) :=
  ((Emb.inl : Emb UD (UD × Counters)).trans (Emb.inr : Emb (UD × Counters) UU)).trans
    (uEmb (nD := nD) (sig := sig) (Ix := Unit) (Val := Elt F) (Name := ℕ) (U := UU) (Lvl := ℕ)).toEmb
instance ER_landsIn : (ER : Emb UD 𝕄).LandsIn (upEmb : UEmb _ 𝕄) := by unfold ER; infer_instance

/-! ## The devices around `c` -/

set_option backward.proofsInPublic true in
/-- The device `k + 1` places ahead of `c`; -/
def fw (c : Dev nD) (k : Fin 3) : Dev nD := ⟨(c.val + (k.val + 1)) % 4, Nat.mod_lt _ (by decide)⟩
set_option backward.proofsInPublic true in
/-- and the one `k + 1` places behind. -/
def bk (c : Dev nD) (k : Fin 3) : Dev nD := ⟨(c.val + (3 - k.val)) % 4, Nat.mod_lt _ (by decide)⟩

theorem fw_bk (c : Dev nD) (k : Fin 3) : fw (bk c k) k = c := by revert c k; decide
theorem bk_fw (c : Dev nD) (k : Fin 3) : bk (fw c k) k = c := by revert c k; decide
/-- Going `k + 1` ahead and then `3 - k` ahead is going round. -/
theorem fw_fw_rev (c : Dev nD) (k : Fin 3) : fw (fw c k) k.rev = c := by revert c k; decide

theorem dev1_eq (c : Dev nD) : (⟨k0_dev1 c, k0_dev1_lt c⟩ : Dev nD) = fw c 0 := by revert c; decide +kernel
theorem dev2_eq (c : Dev nD) : (⟨k0_dev2 c, k0_dev2_lt c⟩ : Dev nD) = fw c 1 := by revert c; decide +kernel
theorem dev3_eq (c : Dev nD) : (⟨k0_dev3 c, k0_dev3_lt c⟩ : Dev nD) = fw c 2 := by revert c; decide +kernel
theorem dev4_eq (c : Dev nD) : (⟨k0_dev4 c, k0_dev4_lt c⟩ : Dev nD) = fw c 0 := by revert c; decide +kernel
theorem dev5_eq (c : Dev nD) : (⟨k0_dev5 c, k0_dev5_lt c⟩ : Dev nD) = fw c 1 := by revert c; decide +kernel
theorem dev6_eq (c : Dev nD) : (⟨k0_dev6 c, k0_dev6_lt c⟩ : Dev nD) = fw c 2 := by revert c; decide +kernel

/-- Stepping `k + 1` ahead permutes the devices. -/
def ring (k : Fin 3) : Dev nD ≃ Dev nD := ⟨fun c => fw c k, fun c => bk c k, fun c => bk_fw c k, fun c => fw_bk c k⟩

/-! ## The slots and the cells -/

abbrev yM : Memref sig .tc .vmem S3x1024x512 .i16 := Memref.whole cc0_scratch2
abbrev rM : Memref sig .tc .vmem S3x1024x512 .i16 := Memref.whole cc0_scratch3

/-- Slot `k` of the send buffer, as the program writes it; -/
abbrev ySlot : Fin 3 → Memref sig .tc .vmem S1024x512 .i16
  | 0 => (yM.slice (Rect.unit (s := S3x1024x512) ![0, 0, 0] S1x1024x512.size inb_S3x1024x512_S1x1024x512_0_0_0) (fun _ => rfl)).squeeze S1024x512 squeezes_S1x1024x512_S1024x512
  | 1 => (yM.slice (Rect.unit (s := S3x1024x512) ![1, 0, 0] S1x1024x512.size inb_S3x1024x512_S1x1024x512_1_0_0) (fun _ => rfl)).squeeze S1024x512 squeezes_S1x1024x512_S1024x512
  | 2 => (yM.slice (Rect.unit (s := S3x1024x512) ![2, 0, 0] S1x1024x512.size inb_S3x1024x512_S1x1024x512_2_0_0) (fun _ => rfl)).squeeze S1024x512 squeezes_S1x1024x512_S1024x512
/-- of the landing buffer. -/
abbrev rSlot : Fin 3 → Memref sig .tc .vmem S1024x512 .i16
  | 0 => (rM.slice (Rect.unit (s := S3x1024x512) ![0, 0, 0] S1x1024x512.size inb_S3x1024x512_S1x1024x512_0_0_0) (fun _ => rfl)).squeeze S1024x512 squeezes_S1x1024x512_S1024x512
  | 1 => (rM.slice (Rect.unit (s := S3x1024x512) ![1, 0, 0] S1x1024x512.size inb_S3x1024x512_S1x1024x512_1_0_0) (fun _ => rfl)).squeeze S1024x512 squeezes_S1x1024x512_S1024x512
  | 2 => (rM.slice (Rect.unit (s := S3x1024x512) ![2, 0, 0] S1x1024x512.size inb_S3x1024x512_S1x1024x512_2_0_0) (fun _ => rfl)).squeeze S1024x512 squeezes_S1x1024x512_S1024x512

/-- The runtime's barrier semaphore; the send and receive semaphores. -/
abbrev barS : Sem sig := (SemArray.scalar (sig.barrier 0 rfl) : Sems sig S_).sem
abbrev sendS : Fin 3 → DmaSem sig := fun | 0 => 11 | 1 => 12 | 2 => 13
abbrev recvS : Fin 3 → DmaSem sig := fun | 0 => 14 | 1 => 15 | 2 => 16

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- A slot's credit: every slot's is the same. -/
abbrev N : ℕ := (rSlot 0).view.dmaCredit
theorem N_pos : 0 < N := View.dmaCredit_pos _ (by decide)

/-! ## The schedule -/

variable (sent : Dev nD → Fin 3 → S1024x512.Idx → Elt F .i16)

/-- Device `c` holds slot `k` of its send buffer, at `f`; -/
def yPts (c : Dev nD) (k : Fin 3) (f : Buf (Elt F) ((ySlot k).view.loc (c : Thread nD τ))) : sProp 𝕄 :=
  (ySlot k).view.loc (c : Thread nD τ) ↦[(ySlot k).view.set]{fullShare} f
/-- of its landing buffer. -/
def rPts (c : Dev nD) (k : Fin 3) (f : Buf (Elt F) ((rSlot k).view.loc (c : Thread nD τ))) : sProp 𝕄 :=
  (rSlot k).view.loc (c : Thread nD τ) ↦[(rSlot k).view.set]{fullShare} f

instance yPts_storable (c : Dev nD) (k : Fin 3) (f) : BI.Storable (upEmb : UEmb _ 𝕄) (yPts (F := F) c k f) := by unfold yPts; infer_instance
instance rPts_storable (c : Dev nD) (k : Fin 3) (f) : BI.Storable (upEmb : UEmb _ 𝕄) (rPts (F := F) c k f) := by unfold rPts; infer_instance

/-- What duty `k` of `c`'s barrier cell hands `c`; -/
def barPay (c : Dev nD) (k : Fin 3) : sProp 𝕄 := iprop((∃ f, rPts (fw c k) k f) ∗ reached ER (recvCell (fw c k) k) 0)
/-- its receive cell `k`; -/
def recvPay (c : Dev nD) (k : Fin 3) : sProp 𝕄 := rPts c k ((rSlot k).view.rep (sent (bk c k) k))
/-- and its send cell `k`. -/
def sendPay (c : Dev nD) (k : Fin 3) : sProp 𝕄 := iprop(∃ f, yPts (F := F) c k f)

def cellDuties : SemLoc sig → Finset (Fin 3)
  | .reg _ => Finset.univ
  | .dma q => if 11 ≤ q.val then {0} else ∅
def cellPay (c : Dev nD) : SemLoc sig → Fin 3 → sProp 𝕄
  | .reg _, k => barPay c k
  | .dma q, _ => if 14 ≤ q.val then recvPay sent c ⟨(q.val - 14) % 3, Nat.mod_lt _ (by decide)⟩
      else sendPay c ⟨(q.val - 11) % 3, Nat.mod_lt _ (by decide)⟩
def cellAmount : SemLoc sig → ℕ
  | .reg _ => 1
  | .dma _ => N

/-- One round on every cell: the barrier cell's three unit duties, a send or receive cell's one duty of a slot's credit. -/
def rd : Rounds.Schedule (GSem nD τ sig) (Fin 3) 𝕄 where
  duties g r := if r = 0 ∧ g.1.2 = .tc then cellDuties g.2 else ∅
  unitless _ := False
  amount g _ _ := cellAmount g.2
  payload g _ d := cellPay sent g.1.1 g.2 d
  amount_pos g _ _ _ := by
    rcases g with ⟨_, _ | _⟩
    · exact Nat.one_pos
    · exact N_pos

instance rd_payload_storable (g : GSem nD τ sig) (r : ℕ) (d : Fin 3) :
    BI.Storable (upEmb : UEmb _ 𝕄) ((rd (F := F) sent).payload g r d) := by
  rcases g with ⟨⟨c, _⟩, _ | q⟩
  · show BI.Storable upEmb (barPay c d)
    unfold barPay; infer_instance
  · show BI.Storable upEmb (if 14 ≤ q.val then recvPay sent c ⟨(q.val - 14) % 3, Nat.mod_lt _ (by decide)⟩
      else sendPay c ⟨(q.val - 11) % 3, Nat.mod_lt _ (by decide)⟩)
    unfold recvPay sendPay
    split <;> infer_instance

section Sched
variable (c : Dev nD) (k : Fin 3)

theorem duties_bar : (rd (F := F) sent).duties (barCell c) 0 = Finset.univ := by
  unfold rd; dsimp only; rw [if_pos ⟨rfl, rfl⟩]; rfl
theorem duties_send : (rd (F := F) sent).duties (sendCell c k) 0 = {0} := by
  unfold rd; dsimp only; rw [if_pos ⟨rfl, rfl⟩]
  fin_cases k <;> rfl
theorem duties_recv : (rd (F := F) sent).duties (recvCell c k) 0 = {0} := by
  unfold rd; dsimp only; rw [if_pos ⟨rfl, rfl⟩]
  fin_cases k <;> rfl
theorem duties_later (g : GSem nD τ sig) : ∀ r, 1 ≤ r → (rd (F := F) sent).duties g r = ∅ :=
  fun r hr => if_neg fun h => by omega

theorem amount_bar (d : Fin 3) : (rd (F := F) sent).amount (barCell c) 0 d = 1 := rfl
theorem amount_send (d : Fin 3) : (rd (F := F) sent).amount (sendCell c k) 0 d = N := rfl
theorem amount_recv (d : Fin 3) : (rd (F := F) sent).amount (recvCell c k) 0 d = N := rfl

theorem expect_bar : (rd (F := F) sent).expect (barCell c) 0 = 3 := by
  unfold Schedule.expect Schedule.amountOf
  rw [duties_bar, Finset.sum_congr rfl fun d _ => amount_bar sent c d]; rfl
theorem expect_send : (rd (F := F) sent).expect (sendCell c k) 0 = N := by
  unfold Schedule.expect Schedule.amountOf; rw [duties_send, Finset.sum_singleton, amount_send]
theorem expect_recv : (rd (F := F) sent).expect (recvCell c k) 0 = N := by
  unfold Schedule.expect Schedule.amountOf; rw [duties_recv, Finset.sum_singleton, amount_recv]

theorem payload_bar : (rd (F := F) sent).payload (barCell c) 0 k = barPay c k := rfl
theorem payload_send (d : Fin 3) : (rd (F := F) sent).payload (sendCell c k) 0 d = sendPay c k := by
  fin_cases k <;> rfl
theorem payload_recv (d : Fin 3) : (rd (F := F) sent).payload (recvCell c k) 0 d = recvPay sent c k := by
  fin_cases k <;> rfl

/-- The barrier cell's round: the three devices' landing slots. -/
theorem rest_bar : bigSep ((rd (F := F) sent).duties (barCell c) 0 \ ∅) (fun d => (rd (F := F) sent).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_send : bigSep ((rd (F := F) sent).duties (sendCell c k) 0 \ ∅) (fun d => (rd (F := F) sent).payload (sendCell c k) 0 d) = sendPay c k := by
  rw [Finset.sdiff_empty, duties_send, bigSep_singleton, payload_send]
theorem rest_recv : bigSep ((rd (F := F) sent).duties (recvCell c k) 0 \ ∅) (fun d => (rd (F := F) sent).payload (recvCell c k) 0 d) = recvPay sent c k := by
  rw [Finset.sdiff_empty, duties_recv, bigSep_singleton, payload_recv]

end Sched

/-! ## What each device owes; the levels -/

/-- What `c` owes after `k` sends: the credits of the arrivals still to be sent; -/
def owed2 (c : Dev nD) : CellTallies nD τ sig Unit := 0 + tallyAt (recvCell (fw c 2) 2) () N
def owed1 (c : Dev nD) : CellTallies nD τ sig Unit := owed2 c + tallyAt (recvCell (fw c 1) 1) () N
def owed0 (c : Dev nD) : CellTallies nD τ sig Unit := owed1 c + tallyAt (recvCell (fw c 0) 0) () N
/-- before the third, second, first signal. -/
def owedB2 (c : Dev nD) : CellTallies nD τ sig Unit := owed0 c + tallyAt (barCell (fw c 2)) () 1
def owedB1 (c : Dev nD) : CellTallies nD τ sig Unit := owedB2 c + tallyAt (barCell (fw c 1)) () 1
def owedB0 (c : Dev nD) : CellTallies nD τ sig Unit := owedB1 c + tallyAt (barCell (fw c 0)) () 1

def L (g : GSem nD τ sig) : Finset Unit := if g.1.2 = .tc then {()} else ∅
def semLevel : SemLoc sig → ℕ
  | .reg _ => 1
  | .dma q => if 14 ≤ q.val then 2 else 0
def lv (g : GSem nD τ sig) (_ : Unit) : ℕ := semLevel g.2

theorem L_of_ne (g : GSem nD τ sig) (h : g.1.2 ≠ .tc) : L g = ∅ := if_neg h
theorem L_tc (c : Dev nD) (sm : SemLoc sig) : L ((c : Thread nD τ), sm) = {()} := if_pos rfl

/-- Everything owed under `O` is a device's and above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O : CellTallies nD τ sig Unit} (hO : Above n O) (d : Dev nD) (sm : SemLoc sig) (k : ℕ) (hs : n < semLevel sm) :
    Above n (O + tallyAt ((d : Thread nD τ), sm) () k) := by
  intro g u h
  rw [Pi.add_apply, Finsupp.add_apply, tallyAt_apply] at h
  by_cases hg : g = ((d : Thread nD τ), sm) ∧ u = ()
  · rw [hg.1]; exact ⟨rfl, hs⟩
  · rw [if_neg hg] at h; exact hO g u h

theorem above_owed2 (c : Dev nD) : Above 1 (owed2 c) := above_add (above_zero 1) _ _ _ (by decide)
theorem above_owed1 (c : Dev nD) : Above 1 (owed1 c) := above_add (above_owed2 c) _ _ _ (by decide)
theorem above_owed0 (c : Dev nD) : Above 1 (owed0 c) := above_add (above_owed1 c) _ _ _ (by decide)
theorem Above.mono {n n' : ℕ} (h : n' ≤ n) {O : CellTallies nD τ sig Unit} (hO : Above n O) : Above n' O :=
  fun g u hg => ⟨(hO g u hg).1, lt_of_le_of_lt h (hO g u hg).2⟩
theorem above_owedB0 (c : Dev nD) : Above 0 (owedB0 c) :=
  above_add (above_add (above_add ((above_owed0 c).mono (Nat.zero_le 1)) _ _ _ (by decide)) _ _ _ (by decide)) _ _ _ (by decide)

/-- A device may wait on a semaphore of level `n` while everything it owes is above. -/
theorem mayWait (c : Dev nD) (sm : SemLoc sig) {n : ℕ} (hs : semLevel sm ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

end Cert.Wire

end
-- ==== Proof.Slots.lean ====
module

public import proofs.«01_k».proof.Proof.Protocol
public import proofs.«01_k».proof.Proof.Gen.KernelIdeal.Frame
public import Idealize.ShloMosaic.Lib.Pipeline.Value

@[expose] public section

set_option maxRecDepth 16384

noncomputable section

namespace Cert.Wire

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The buffers the kernel is handed: `x`, `w` and the result, the two scales' staged words, and the scratch. -/
abbrev xM : Memref sig .tc .hbm S1024x4096 .i8 := Memref.whole main_arg0
abbrev wM : Memref sig .tc .hbm S4096x2048 .i8 := Memref.whole main_arg1
abbrev outM : Memref sig .tc .hbm S4096x512 .f32 := Memref.whole main_v1
abbrev s0M : Memref sig .tc .vmem S1 .f32 := Memref.whole cc0_stg0_0
abbrev s1M : Memref sig .tc .vmem S1 .f32 := Memref.whole cc0_stg1_0
abbrev xvM : Memref sig .tc .vmem S1024x4096 .i8 := Memref.whole cc0_scratch0
abbrev wvM : Memref sig .tc .vmem S4x4096x512 .i8 := Memref.whole cc0_scratch1
abbrev obM : Memref sig .tc .vmem S4x1024x512 .f32 := Memref.whole cc0_scratch4

/-- Slot `j` of the staged columns of `w`; -/
abbrev wvSlot : Fin 4 → Memref sig .tc .vmem S4096x512 .i8
  | 0 => (wvM.slice (Rect.unit (s := S4x4096x512) ![0, 0, 0] S1x4096x512.size inb_S4x4096x512_S1x4096x512_0_0_0) (fun _ => rfl)).squeeze S4096x512 squeezes_S1x4096x512_S4096x512
  | 1 => (wvM.slice (Rect.unit (s := S4x4096x512) ![1, 0, 0] S1x4096x512.size inb_S4x4096x512_S1x4096x512_1_0_0) (fun _ => rfl)).squeeze S4096x512 squeezes_S1x4096x512_S4096x512
  | 2 => (wvM.slice (Rect.unit (s := S4x4096x512) ![2, 0, 0] S1x4096x512.size inb_S4x4096x512_S1x4096x512_2_0_0) (fun _ => rfl)).squeeze S4096x512 squeezes_S1x4096x512_S4096x512
  | 3 => (wvM.slice (Rect.unit (s := S4x4096x512) ![3, 0, 0] S1x4096x512.size inb_S4x4096x512_S1x4096x512_3_0_0) (fun _ => rfl)).squeeze S4096x512 squeezes_S1x4096x512_S4096x512
/-- of the finished row blocks. -/
abbrev obSlot : Fin 4 → Memref sig .tc .vmem S1024x512 .f32
  | 0 => (obM.slice (Rect.unit (s := S4x1024x512) ![0, 0, 0] S1x1024x512.size inb_S4x1024x512_S1x1024x512_0_0_0) (fun _ => rfl)).squeeze S1024x512 squeezes_S1x1024x512_S1024x512
  | 1 => (obM.slice (Rect.unit (s := S4x1024x512) ![1, 0, 0] S1x1024x512.size inb_S4x1024x512_S1x1024x512_1_0_0) (fun _ => rfl)).squeeze S1024x512 squeezes_S1x1024x512_S1024x512
  | 2 => (obM.slice (Rect.unit (s := S4x1024x512) ![2, 0, 0] S1x1024x512.size inb_S4x1024x512_S1x1024x512_2_0_0) (fun _ => rfl)).squeeze S1024x512 squeezes_S1x1024x512_S1024x512
  | 3 => (obM.slice (Rect.unit (s := S4x1024x512) ![3, 0, 0] S1x1024x512.size inb_S4x1024x512_S1x1024x512_3_0_0) (fun _ => rfl)).squeeze S1024x512 squeezes_S1x1024x512_S1024x512
/-- The `j`-th column block of `w` that device `c` reads; -/
abbrev wCol (c : Dev nD) : Fin 4 → Memref sig .tc .hbm S4096x512 .i8
  | 0 => wM.slice (Rect.unit (s := S4096x2048) (k0_off1 c 0#32) S4096x512.size (k0_off1_inb c 0)) (fun _ => rfl)
  | 1 => wM.slice (Rect.unit (s := S4096x2048) (k0_off1 c 1#32) S4096x512.size (k0_off1_inb c 1)) (fun _ => rfl)
  | 2 => wM.slice (Rect.unit (s := S4096x2048) (k0_off1 c 2#32) S4096x512.size (k0_off1_inb c 2)) (fun _ => rfl)
  | 3 => wM.slice (Rect.unit (s := S4096x2048) (k0_off1 c 3#32) S4096x512.size (k0_off1_inb c 3)) (fun _ => rfl)
/-- the `j`-th row block of the result it writes. -/
abbrev outRow (c : Dev nD) : Fin 4 → Memref sig .tc .hbm S1024x512 .f32
  | 0 => outM.slice (Rect.unit (s := S4096x512) (k0_off3 c 1#32) S1024x512.size (k0_off3_inb c 0)) (fun _ => rfl)
  | 1 => outM.slice (Rect.unit (s := S4096x512) (k0_off3 c 2#32) S1024x512.size (k0_off3_inb c 1)) (fun _ => rfl)
  | 2 => outM.slice (Rect.unit (s := S4096x512) (k0_off3 c 3#32) S1024x512.size (k0_off3_inb c 2)) (fun _ => rfl)
  | 3 => outM.slice (Rect.unit (s := S4096x512) (k0_off2 c) S1024x512.size (k0_off2_inb c)) (fun _ => rfl)

abbrev 𝒱₀ : Variants := Variants.none

/-! ## A slot read two ways -/

section Cast
variable {sp : Space} {S t : Shape} {e : EltTy}

/-- A load at the box a slot is cut at reads the slot, with the box's leading unit axis back. -/
theorem load_slot (M : Memref sig .tc sp S e) (r : Rect S) (hr : ∀ a, r.stride a = 1) (hq : r.shape.Squeezes t)
    (hc : r.shape.ShapeCasts t) (hc' : t.ShapeCasts r.shape) (f : M.view.ty.Contents (Elt F)) :
    M.view.readAt (Elt F) r.toLoadRect f = shapeCast r.shape (((M.slice r hr).squeeze t hq).view.read (Elt F) f) hc' :=
  (shapeCast_shapeCast (M.view.readAt (Elt F) r.toLoadRect f) hc hc').symm

/-- A slot reads what was stored at its box, without the leading unit axis. -/
theorem slot_store (M : Memref sig .tc sp S e) (r : Rect S) (hr : ∀ a, r.stride a = 1) (hq : r.shape.Squeezes t)
    (hc : r.shape.ShapeCasts t) (f : M.view.ty.Contents (Elt F)) (p : r.shape.Idx → Elt F e) :
    ((M.slice r hr).squeeze t hq).view.read (Elt F) ((M.access r).write (Elt F) f p Finset.univ) = shapeCast t p hc :=
  congrArg (fun v => shapeCast t v hc) (View.read_write_univ (v := M.access r) f p)

end Cast

/-! ## What each device computes -/

variable (m : (ℓ : Loc nD τ sig) → Buf (Elt F) ℓ)

/-- Device `c`'s rows of `x`; -/
abbrev xAt (c : Dev nD) : S1024x4096.Idx → Elt F .i8 := m ((c : Thread nD τ).loc main_arg0)
/-- the `j`-th column block it reads of its own `w`, as it lies in its slot; -/
def wAt (c : Dev nD) (j : Fin 4) : S1x4096x512.Idx → Elt F .i8 :=
  match j with
  | 0 => shapeCast S1x4096x512 ((wCol c 0).view.read (Elt F) (m ((c : Thread nD τ).loc main_arg1))) (by decide)
  | 1 => shapeCast S1x4096x512 ((wCol c 1).view.read (Elt F) (m ((c : Thread nD τ).loc main_arg1))) (by decide)
  | 2 => shapeCast S1x4096x512 ((wCol c 2).view.read (Elt F) (m ((c : Thread nD τ).loc main_arg1))) (by decide)
  | 3 => shapeCast S1x4096x512 ((wCol c 3).view.read (Elt F) (m ((c : Thread nD τ).loc main_arg1))) (by decide)
/-- the product of the two scales. -/
def sclAt (c : Dev nD) : F .f32 := k0_pay1 (iblk m c 0 t0_0) (iblk m c 1 t0_0)

/-- The codes device `c` sends `k + 1` places ahead. -/
def sentAt (c : Dev nD) (k : Fin 3) : S1024x512.Idx → Elt F .i16 :=
  match k with
  | 0 => shapeCast S1024x512 (k0_pay2 (xAt m c) (wAt m c 0)) shapeCasts_S1x1024x512_S1024x512
  | 1 => shapeCast S1024x512 (k0_pay3 (xAt m c) (wAt m c 1)) shapeCasts_S1x1024x512_S1024x512
  | 2 => shapeCast S1024x512 (k0_pay4 (xAt m c) (wAt m c 2)) shapeCasts_S1x1024x512_S1024x512
/-- The codes it is sent from `k + 1` places behind, as they lie in their landing slot. -/
def gotAt (c : Dev nD) (k : Fin 3) : S1x1024x512.Idx → Elt F .i16 :=
  shapeCast S1x1024x512 (sentAt m (bk c k) k) shapeCasts_S1024x512_S1x1024x512
/-- The four row blocks of its result: three from the codes it is sent, one from its own rows. -/
def outAt (c : Dev nD) (j : Fin 4) : S1024x512.Idx → Elt F .f32 :=
  match j with
  | 0 => shapeCast S1024x512 (k0_pay7 (sclAt m c) (gotAt m c 0)) shapeCasts_S1x1024x512_S1024x512
  | 1 => shapeCast S1024x512 (k0_pay8 (sclAt m c) (gotAt m c 1)) shapeCasts_S1x1024x512_S1024x512
  | 2 => shapeCast S1024x512 (k0_pay9 (sclAt m c) (gotAt m c 2)) shapeCasts_S1x1024x512_S1024x512
  | 3 => shapeCast S1024x512 (k0_pay6 (sclAt m c) (xAt m c) (k0_pay5 (wAt m c 3)) (constantI S1024x512 32 0#32)) shapeCasts_S1x1024x512_S1024x512

theorem hz1 : (![0] : Fin 1 → Nat) = fun _ => 0 := funext fun a => by fin_cases a; rfl
theorem hz2 : (![0, 0] : Fin 2 → Nat) = fun _ => 0 := funext fun a => by fin_cases a <;> rfl

/-! ## The buffers read as those values -/

variable (c : Dev nD)

/-- The staged rows of `x`, once copied, read as the rows; -/
theorem load_x (f : (xvM : Memref sig .tc .vmem S1024x4096 .i8).view.ty.Contents (Elt F)) :
    xvM.view.readAt (Elt F) (Rect.unit (s := S1024x4096) ![0, 0] S1024x4096.size inb_S1024x4096_S1024x4096_0_0).toLoadRect
      (xvM.view.write (Elt F) f (xAt m c) Finset.univ) = xAt m c :=
  (Memref.readAt_unit_zero (Elt F) cc0_scratch0 hz2 _ _).trans (View.read_write_univ (v := xvM.view) f (xAt m c))

theorem load_w0 :
    wvM.view.readAt (Elt F) (Rect.unit (s := S4x4096x512) ![0, 0, 0] S1x4096x512.size inb_S4x4096x512_S1x4096x512_0_0_0).toLoadRect
      ((wvSlot 0).view.rep ((wCol c 0).view.read (Elt F) (m ((c : Thread nD τ).loc main_arg1)))) = wAt m c 0 :=
  (load_slot wvM _ (fun _ => rfl) squeezes_S1x4096x512_S4096x512 (by decide) (by decide) _).trans
    (congrArg (fun v => shapeCast S1x4096x512 v (by decide)) (View.read_rep (wvSlot 0).view _))
theorem load_w1 :
    wvM.view.readAt (Elt F) (Rect.unit (s := S4x4096x512) ![1, 0, 0] S1x4096x512.size inb_S4x4096x512_S1x4096x512_1_0_0).toLoadRect
      ((wvSlot 1).view.rep ((wCol c 1).view.read (Elt F) (m ((c : Thread nD τ).loc main_arg1)))) = wAt m c 1 :=
  (load_slot wvM _ (fun _ => rfl) squeezes_S1x4096x512_S4096x512 (by decide) (by decide) _).trans
    (congrArg (fun v => shapeCast S1x4096x512 v (by decide)) (View.read_rep (wvSlot 1).view _))
theorem load_w2 :
    wvM.view.readAt (Elt F) (Rect.unit (s := S4x4096x512) ![2, 0, 0] S1x4096x512.size inb_S4x4096x512_S1x4096x512_2_0_0).toLoadRect
      ((wvSlot 2).view.rep ((wCol c 2).view.read (Elt F) (m ((c : Thread nD τ).loc main_arg1)))) = wAt m c 2 :=
  (load_slot wvM _ (fun _ => rfl) squeezes_S1x4096x512_S4096x512 (by decide) (by decide) _).trans
    (congrArg (fun v => shapeCast S1x4096x512 v (by decide)) (View.read_rep (wvSlot 2).view _))
theorem load_w3 :
    wvM.view.readAt (Elt F) (Rect.unit (s := S4x4096x512) ![3, 0, 0] S1x4096x512.size inb_S4x4096x512_S1x4096x512_3_0_0).toLoadRect
      ((wvSlot 3).view.rep ((wCol c 3).view.read (Elt F) (m ((c : Thread nD τ).loc main_arg1)))) = wAt m c 3 :=
  (load_slot wvM _ (fun _ => rfl) squeezes_S1x4096x512_S4096x512 (by decide) (by decide) _).trans
    (congrArg (fun v => shapeCast S1x4096x512 v (by decide)) (View.read_rep (wvSlot 3).view _))
theorem load_r0 :
    rM.view.readAt (Elt F) (Rect.unit (s := S3x1024x512) ![0, 0, 0] S1x1024x512.size inb_S3x1024x512_S1x1024x512_0_0_0).toLoadRect
      ((rSlot 0).view.rep (sentAt m (bk c 0) 0)) = gotAt m c 0 :=
  (load_slot rM _ (fun _ => rfl) squeezes_S1x1024x512_S1024x512 (by decide) (by decide) _).trans
    (congrArg (fun v => shapeCast S1x1024x512 v (by decide)) (View.read_rep (rSlot 0).view _))
theorem load_r1 :
    rM.view.readAt (Elt F) (Rect.unit (s := S3x1024x512) ![1, 0, 0] S1x1024x512.size inb_S3x1024x512_S1x1024x512_1_0_0).toLoadRect
      ((rSlot 1).view.rep (sentAt m (bk c 1) 1)) = gotAt m c 1 :=
  (load_slot rM _ (fun _ => rfl) squeezes_S1x1024x512_S1024x512 (by decide) (by decide) _).trans
    (congrArg (fun v => shapeCast S1x1024x512 v (by decide)) (View.read_rep (rSlot 1).view _))
theorem load_r2 :
    rM.view.readAt (Elt F) (Rect.unit (s := S3x1024x512) ![2, 0, 0] S1x1024x512.size inb_S3x1024x512_S1x1024x512_2_0_0).toLoadRect
      ((rSlot 2).view.rep (sentAt m (bk c 2) 2)) = gotAt m c 2 :=
  (load_slot rM _ (fun _ => rfl) squeezes_S1x1024x512_S1024x512 (by decide) (by decide) _).trans
    (congrArg (fun v => shapeCast S1x1024x512 v (by decide)) (View.read_rep (rSlot 2).view _))

end Cert.Wire

end
-- ==== Proof.Body.lean ====
module

public import proofs.«01_k».proof.Proof.Slots

@[expose] public section

set_option maxRecDepth 16384

noncomputable section

namespace Cert.Wire

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (sent : Dev nD → Fin 3 → S1024x512.Idx → Elt F .i16)
variable (K : Dev nD × Fin 7 → ℕ)

/-- The cells' invariants device `c`'s body opens: its own seven, the three barrier cells it signals, the three receive
    cells it sends to. -/
def invs (c : Dev nD) : sProp 𝕄 :=
  iprop(cellInv ER (rd sent) (K (c, 0)) (barCell c)
    ∗ cellInv ER (rd sent) (K (c, 1)) (sendCell c 0) ∗ cellInv ER (rd sent) (K (c, 2)) (sendCell c 1) ∗ cellInv ER (rd sent) (K (c, 3)) (sendCell c 2)
    ∗ cellInv ER (rd sent) (K (c, 4)) (recvCell c 0) ∗ cellInv ER (rd sent) (K (c, 5)) (recvCell c 1) ∗ cellInv ER (rd sent) (K (c, 6)) (recvCell c 2)
    ∗ cellInv ER (rd sent) (K (fw c 0, 0)) (barCell (fw c 0)) ∗ cellInv ER (rd sent) (K (fw c 1, 0)) (barCell (fw c 1)) ∗ cellInv ER (rd sent) (K (fw c 2, 0)) (barCell (fw c 2))
    ∗ cellInv ER (rd sent) (K (fw c 0, 4)) (recvCell (fw c 0) 0) ∗ cellInv ER (rd sent) (K (fw c 1, 5)) (recvCell (fw c 1) 1) ∗ cellInv ER (rd sent) (K (fw c 2, 6)) (recvCell (fw c 2) 2))

instance invs_persistent (c : Dev nD) : BI.Persistent (invs sent K c) := by unfold invs; infer_instance

/-- The ghost state device `c` starts from: the invariants; its positions at round 0 of its seven cells; the reached-marks of
    the barrier cells it signals and of its own send and receive cells; the nine duty tokens it pays with. -/
def ghost (c : Dev nD) : sProp 𝕄 :=
  iprop(invs sent K c
    ∗ atPos ER (barCell c) 0 ∅ 0
    ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0
    ∗ reached ER (barCell (fw c 0)) 0 ∗ reached ER (barCell (fw c 1)) 0 ∗ reached ER (barCell (fw c 2)) 0
    ∗ reached ER (sendCell c 0) 0 ∗ reached ER (sendCell c 1) 0 ∗ reached ER (sendCell c 2) 0
    ∗ reached ER (recvCell c 0) 0 ∗ reached ER (recvCell c 1) 0 ∗ reached ER (recvCell c 2) 0
    ∗ dutyTok ER (barCell (fw c 0)) 0 2 ∗ dutyTok ER (barCell (fw c 1)) 0 1 ∗ dutyTok ER (barCell (fw c 2)) 0 0
    ∗ dutyTok ER (recvCell (fw c 0) 0) 0 0 ∗ dutyTok ER (recvCell (fw c 1) 1) 0 0 ∗ dutyTok ER (recvCell (fw c 2) 2) 0 0
    ∗ dutyTok ER (sendCell c 0) 0 0 ∗ dutyTok ER (sendCell c 1) 0 0 ∗ dutyTok ER (sendCell c 2) 0 0)

/-! ## The three sends -/

/-- Send `k`, from a slot that reads the codes due: the sender's slot comes back when its send cell is waited for, the codes
    land with the receive cell, and one credit less is owed. -/
theorem wp_send_k (c n : Dev nD) (k : Fin 3) (hn : n = fw c k) (κ₁ κ₂ : ℕ)
    {hsc : (rSlot k : Memref sig (Dev.tc n : Thread nD τ).2.kind .vmem S1024x512 .i16).view.ref.isScScratch = false}
    {hsrc : (ySlot k).view.WordExact} {hdst : (rSlot k : Memref sig .tc .vmem S1024x512 .i16).view.WordExact}
    {hsem : DmaTarget.Typed .vmem (.dma (recvS k)) (.remote (Dev.tc n : Thread nD τ) (rSlot k) (.dma (sendS k)) hsc)}
    {α : Type} {Q : α → sProp 𝕄} {kk : PUnit → Prog (TpuEff nD τ sig (Elt F) Λ₀ .tc) α}
    (f : Buf (Elt F) ((ySlot k).view.loc (c : Thread nD τ))) (hf : (ySlot k).view.read (Elt F) f = sent c k)
    (fn : Buf (Elt F) ((rSlot k).view.loc (fw c k : Thread nD τ))) (O₀ O : CellTallies nD τ sig Unit)
    (hO : O₀ = O + tallyAt (recvCell (fw c k) k) () N) (hN : (rSlot k).view.amount (.dma (recvS k)) = N) (W : Waits sig Unit) :
    iprop(cellInv ER (rd sent) κ₁ (sendCell c k) ∗ cellInv ER (rd sent) κ₂ (recvCell (fw c k) k)
        ∗ ((ySlot k).view.loc (c : Thread nD τ) ↦[(ySlot k).view.set]{fullShare} f) ∗ rPts (fw c k) k fn
        ∗ owes (c : Thread nD τ) O₀ W
        ∗ dutyTok ER (sendCell c k) 0 0 ∗ reached ER (sendCell c k) 0
        ∗ dutyTok ER (recvCell (fw c k) k) 0 0 ∗ reached ER (recvCell (fw c k) k) 0)
      ⊢ iprop(((cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (ySlot k) (.remote (Dev.tc n : Thread nD τ) (rSlot k) (.dma (sendS k)) hsc) (.dma (recvS k)) hsrc hdst hsem) kk) Q) := by
  subst hn
  unfold rPts
  have hp₁ : ((ySlot k).view.loc (c : Thread nD τ) ↦[(ySlot k).view.set]{fullShare} f : sProp 𝕄) ⊢ (rd sent).payload (sendCell c k) 0 0 := by
    rw [payload_send]; unfold sendPay yPts; iintro H; iexists f; iexact H
  have hp₂ : ((rSlot k).view.loc (fw c k : Thread nD τ) ↦[(rSlot k).view.set]{fullShare}
      (rSlot k).view.write (Elt F) fn ((ySlot k).view.read (Elt F) f) Finset.univ : sProp 𝕄) ⊢ (rd sent).payload (recvCell (fw c k) k) 0 0 := by
    rw [payload_recv]; unfold recvPay rPts
    refine (pointsTo_rep_entails (fw c k : Thread nD τ) (rSlot k) _ fullShare).trans (Entails.of_eq ?_)
    rw [View.read_write_univ, hf, bk_fw]
  exact Rounds.wp_send_pointsTo 𝒱₀ ER (rd sent) (c : Thread nD τ) none (κ₁ := κ₁) (κ₂ := κ₂)
    (r₁ := 0) (r₂ := 0) (d₁ := 0) (d₂ := 0) (fd := fn)
    (by rw [duties_send]; exact Finset.mem_singleton_self _) (by rw [duties_recv]; exact Finset.mem_singleton_self _)
    () () N hN (amount_send sent c k 0) (amount_recv sent (fw c k) k 0) O hO (W := W) hp₁ hp₂

/-- What a receive cell's round hands over; -/
theorem all_recv (c : Dev nD) (k : Fin 3) : bigSep ((rd (F := F) sent).duties (recvCell c k) 0) (fun d => (rd (F := F) sent).payload (recvCell c k) 0 d) = recvPay sent c k := by
  rw [duties_recv, bigSep_singleton, payload_recv]
/-- and a send cell's. -/
theorem all_send (c : Dev nD) (k : Fin 3) : bigSep ((rd (F := F) sent).duties (sendCell c k) 0) (fun d => (rd (F := F) sent).payload (sendCell c k) 0 d) = sendPay c k := by
  rw [duties_send, bigSep_singleton, payload_send]

/-! ## The body -/

/-- What device `c`'s body starts from: its arrays, the column blocks and the row blocks apart; the scales; the scratch, the
    slots apart; its local semaphores at zero; its ghost state and credits; what it owes. -/
def given (c : Dev nD) (fo : Buf (Elt F) (outM.view.loc (c : Thread nD τ))) (fxv : Buf (Elt F) (xvM.view.loc (c : Thread nD τ)))
    (fwv : Buf (Elt F) (wvM.view.loc (c : Thread nD τ))) (fy : Buf (Elt F) (yM.view.loc (c : Thread nD τ)))
    (fr : Buf (Elt F) (rM.view.loc (c : Thread nD τ))) (fob : Buf (Elt F) (obM.view.loc (c : Thread nD τ))) (W : Waits sig Unit) : sProp 𝕄 :=
    iprop((xM.view.loc (c : Thread nD τ) ↦{fullShare} (m ((c : Thread nD τ).loc main_arg0)))
      ∗ ((wCol c 0).view.loc (c : Thread nD τ) ↦[(wCol c 0).view.set]{fullShare} (m ((c : Thread nD τ).loc main_arg1)))
      ∗ ((wCol c 1).view.loc (c : Thread nD τ) ↦[(wCol c 1).view.set]{fullShare} (m ((c : Thread nD τ).loc main_arg1)))
      ∗ ((wCol c 2).view.loc (c : Thread nD τ) ↦[(wCol c 2).view.set]{fullShare} (m ((c : Thread nD τ).loc main_arg1)))
      ∗ ((wCol c 3).view.loc (c : Thread nD τ) ↦[(wCol c 3).view.set]{fullShare} (m ((c : Thread nD τ).loc main_arg1)))
      ∗ ((outRow c 0).view.loc (c : Thread nD τ) ↦[(outRow c 0).view.set]{fullShare} fo)
      ∗ ((outRow c 1).view.loc (c : Thread nD τ) ↦[(outRow c 1).view.set]{fullShare} fo)
      ∗ ((outRow c 2).view.loc (c : Thread nD τ) ↦[(outRow c 2).view.set]{fullShare} fo)
      ∗ ((outRow c 3).view.loc (c : Thread nD τ) ↦[(outRow c 3).view.set]{fullShare} fo)
      ∗ (s0M.view.loc (c : Thread nD τ) ↦{fullShare} iblk m c 0 t0_0)
      ∗ (s1M.view.loc (c : Thread nD τ) ↦{fullShare} iblk m c 1 t0_0)
      ∗ (xvM.view.loc (c : Thread nD τ) ↦{fullShare} fxv)
      ∗ ((wvSlot 0).view.loc (c : Thread nD τ) ↦[(wvSlot 0).view.set]{fullShare} fwv)
      ∗ ((wvSlot 1).view.loc (c : Thread nD τ) ↦[(wvSlot 1).view.set]{fullShare} fwv)
      ∗ ((wvSlot 2).view.loc (c : Thread nD τ) ↦[(wvSlot 2).view.set]{fullShare} fwv)
      ∗ ((wvSlot 3).view.loc (c : Thread nD τ) ↦[(wvSlot 3).view.set]{fullShare} fwv)
      ∗ ((ySlot 0).view.loc (c : Thread nD τ) ↦[(ySlot 0).view.set]{fullShare} fy)
      ∗ ((ySlot 1).view.loc (c : Thread nD τ) ↦[(ySlot 1).view.set]{fullShare} fy)
      ∗ ((ySlot 2).view.loc (c : Thread nD τ) ↦[(ySlot 2).view.set]{fullShare} fy)
      ∗ rPts c 0 fr ∗ rPts c 1 fr ∗ rPts c 2 fr
      ∗ ((obSlot 0).view.loc (c : Thread nD τ) ↦[(obSlot 0).view.set]{fullShare} fob)
      ∗ ((obSlot 1).view.loc (c : Thread nD τ) ↦[(obSlot 1).view.set]{fullShare} fob)
      ∗ ((obSlot 2).view.loc (c : Thread nD τ) ↦[(obSlot 2).view.set]{fullShare} fob)
      ∗ ((obSlot 3).view.loc (c : Thread nD τ) ↦[(obSlot 3).view.set]{fullShare} fob)
      ∗ semVal ((c : Thread nD τ), .dma (2 : DmaSem sig)) 0
      ∗ semVal ((c : Thread nD τ), .dma (3 : DmaSem sig)) 0
      ∗ semVal ((c : Thread nD τ), .dma (4 : DmaSem sig)) 0
      ∗ semVal ((c : Thread nD τ), .dma (5 : DmaSem sig)) 0
      ∗ semVal ((c : Thread nD τ), .dma (6 : DmaSem sig)) 0
      ∗ semVal ((c : Thread nD τ), .dma (7 : DmaSem sig)) 0
      ∗ semVal ((c : Thread nD τ), .dma (8 : DmaSem sig)) 0
      ∗ semVal ((c : Thread nD τ), .dma (9 : DmaSem sig)) 0
      ∗ semVal ((c : Thread nD τ), .dma (10 : DmaSem sig)) 0
      ∗ ghost (sentAt m) K c ∗ cred (tallyAt (barCell c) () 3)
      ∗ cred (tallyAt (recvCell c 0) () N) ∗ cred (tallyAt (recvCell c 1) () N) ∗ cred (tallyAt (recvCell c 2) () N)
      ∗ levAts L lv
      ∗ owes (c : Thread nD τ) (owedB0 c) W)

/-- What it ends with: the arrays, the row blocks of the result computed; everything else back, every semaphore at zero,
    nothing owed. -/
def done (c : Dev nD) : sProp 𝕄 :=
    iprop((xM.view.loc (c : Thread nD τ) ↦{fullShare} (m ((c : Thread nD τ).loc main_arg0)))
      ∗ ((wCol c 0).view.loc (c : Thread nD τ) ↦[(wCol c 0).view.set]{fullShare} (m ((c : Thread nD τ).loc main_arg1)))
      ∗ ((wCol c 1).view.loc (c : Thread nD τ) ↦[(wCol c 1).view.set]{fullShare} (m ((c : Thread nD τ).loc main_arg1)))
      ∗ ((wCol c 2).view.loc (c : Thread nD τ) ↦[(wCol c 2).view.set]{fullShare} (m ((c : Thread nD τ).loc main_arg1)))
      ∗ ((wCol c 3).view.loc (c : Thread nD τ) ↦[(wCol c 3).view.set]{fullShare} (m ((c : Thread nD τ).loc main_arg1)))
      ∗ ((outRow c 0).view.loc (c : Thread nD τ) ↦[(outRow c 0).view.set]{fullShare} (outRow c 0).view.rep (outAt m c 0))
      ∗ ((outRow c 1).view.loc (c : Thread nD τ) ↦[(outRow c 1).view.set]{fullShare} (outRow c 1).view.rep (outAt m c 1))
      ∗ ((outRow c 2).view.loc (c : Thread nD τ) ↦[(outRow c 2).view.set]{fullShare} (outRow c 2).view.rep (outAt m c 2))
      ∗ ((outRow c 3).view.loc (c : Thread nD τ) ↦[(outRow c 3).view.set]{fullShare} (outRow c 3).view.rep (outAt m c 3))
      ∗ (s0M.view.loc (c : Thread nD τ) ↦{fullShare} iblk m c 0 t0_0)
      ∗ (s1M.view.loc (c : Thread nD τ) ↦{fullShare} iblk m c 1 t0_0)
      ∗ (∃ f, (xvM.view.loc (c : Thread nD τ) ↦{fullShare} f))
      ∗ (∃ f, ((wvSlot 0).view.loc (c : Thread nD τ) ↦[(wvSlot 0).view.set]{fullShare} f))
      ∗ (∃ f, ((wvSlot 1).view.loc (c : Thread nD τ) ↦[(wvSlot 1).view.set]{fullShare} f))
      ∗ (∃ f, ((wvSlot 2).view.loc (c : Thread nD τ) ↦[(wvSlot 2).view.set]{fullShare} f))
      ∗ (∃ f, ((wvSlot 3).view.loc (c : Thread nD τ) ↦[(wvSlot 3).view.set]{fullShare} f))
      ∗ (∃ f, yPts (F := F) c 0 f)
      ∗ (∃ f, yPts (F := F) c 1 f)
      ∗ (∃ f, yPts (F := F) c 2 f)
      ∗ (∃ f, rPts (F := F) c 0 f)
      ∗ (∃ f, rPts (F := F) c 1 f)
      ∗ (∃ f, rPts (F := F) c 2 f)
      ∗ (∃ f, ((obSlot 0).view.loc (c : Thread nD τ) ↦[(obSlot 0).view.set]{fullShare} f))
      ∗ (∃ f, ((obSlot 1).view.loc (c : Thread nD τ) ↦[(obSlot 1).view.set]{fullShare} f))
      ∗ (∃ f, ((obSlot 2).view.loc (c : Thread nD τ) ↦[(obSlot 2).view.set]{fullShare} f))
      ∗ (∃ f, ((obSlot 3).view.loc (c : Thread nD τ) ↦[(obSlot 3).view.set]{fullShare} f))
      ∗ semVal ((c : Thread nD τ), .dma (2 : DmaSem sig)) 0
      ∗ semVal ((c : Thread nD τ), .dma (3 : DmaSem sig)) 0
      ∗ semVal ((c : Thread nD τ), .dma (4 : DmaSem sig)) 0
      ∗ semVal ((c : Thread nD τ), .dma (5 : DmaSem sig)) 0
      ∗ semVal ((c : Thread nD τ), .dma (6 : DmaSem sig)) 0
      ∗ semVal ((c : Thread nD τ), .dma (7 : DmaSem sig)) 0
      ∗ semVal ((c : Thread nD τ), .dma (8 : DmaSem sig)) 0
      ∗ semVal ((c : Thread nD τ), .dma (9 : DmaSem sig)) 0
      ∗ semVal ((c : Thread nD τ), .dma (10 : DmaSem sig)) 0
      ∗ semVal (sendCell c 0) 0
      ∗ semVal (sendCell c 1) 0
      ∗ semVal (sendCell c 2) 0
      ∗ semVal (recvCell c 0) 0
      ∗ semVal (recvCell c 1) 0
      ∗ semVal (recvCell c 2) 0
      ∗ semVal (barCell c) 0
      ∗ (∃ W, owes (c : Thread nD τ) 0 W))

set_option maxHeartbeats 8000000 in
/-- The body, run from `given` to `done`. -/
theorem body_run (c : Dev nD) (Kt : PUnit → sProp 𝕄) (fo fxv fwv fy fr fob) (W : Waits sig Unit) :
    iprop(given m K c fo fxv fwv fy fr fob W ∗ (done m c -∗ Kt ⟨⟩))
      ⊢ wp frame (wpE (defs₀ (F := F)) 𝒱₀ c none) Set.univ
          (cc0_body xM (Memref.isWhole_whole _) wM (Memref.isWhole_whole _) s0M (Memref.isWhole_whole _) s1M (Memref.isWhole_whole _)
            outM (Memref.isWhole_whole _) xvM (Memref.isWhole_whole _) wvM (Memref.isWhole_whole _) yM (Memref.isWhole_whole _)
            rM (Memref.isWhole_whole _) obM (Memref.isWhole_whole _) cc0_scratch5 cc0_scratch6 cc0_scratch7 cc0_scratch8) Kt := by
  rw [cc0_body_eq_skeleton]; unfold cc0_body_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold given ghost invs
  iintro ⟨⟨Hx, Hw0, Hw1, Hw2, Hw3, Ho0, Ho1, Ho2, Ho3, Hsc0, Hsc1, Hxv, Hv0, Hv1, Hv2, Hv3, Hy0, Hy1, Hy2, Hr0, Hr1, Hr2, Hb0, Hb1, Hb2, Hb3, Hs2, Hs3, Hs4, Hs5, Hs6, Hs7, Hs8, Hs9, Hs10, ⟨⟨#HIbar, #HIs0, #HIs1, #HIs2, #HIr0, #HIr1, #HIr2, #HIb0, #HIb1, #HIb2, #HIf0, #HIf1, #HIf2⟩, HaB, HaS0, HaS1, HaS2, HaR0, HaR1, HaR2, #HrB0, #HrB1, #HrB2, #HrS0, #HrS1, #HrS2, #HrR0, #HrR1, #HrR2, HtB0, HtB1, HtB2, HtR0, HtR1, HtR2, HtS0, HtS1, HtS2⟩, HcB, HcR0, HcR1, HcR2, #Hlev, HO⟩, Hk⟩
  sl_exec
  -- the first signal, to the device one ahead: its duty 2, with this device's landing slot 2
  rw [dev1_eq c]
  iapply (Rounds.wp_signal 𝒱₀ ER (rd (sentAt m)) (c : Thread nD τ) none (dst := (fw c 0 : Thread nD τ)) (κ := K (fw c 0, 0))
      (d := 2) (by rw [duties_bar]; exact Finset.mem_univ _) ((amount_bar (sentAt m) (fw c 0) 2).trans (by decide)) () (owedB1 c) rfl)
    $$ [HO HtB0 Hr2]
  · isplitr; · iexact HIb0
    isplitl [HO]; · iexact HO
    isplitl [HtB0]; · iexact HtB0
    isplitl [Hr2]
    · rw [payload_bar]; unfold barPay; rw [show fw (fw c 0) 2 = c from fw_fw_rev c 0]
      isplitl [Hr2]; · iexists fr; iexact Hr2
      iexact HrR2
    · iexact HrB0
  iintro HO
  sl_exec
  rw [dev2_eq c]
  iapply (Rounds.wp_signal 𝒱₀ ER (rd (sentAt m)) (c : Thread nD τ) none (dst := (fw c 1 : Thread nD τ)) (κ := K (fw c 1, 0))
      (d := 1) (by rw [duties_bar]; exact Finset.mem_univ _) ((amount_bar (sentAt m) (fw c 1) 1).trans (by decide)) () (owedB2 c) rfl)
    $$ [HO HtB1 Hr1]
  · isplitr; · iexact HIb1
    isplitl [HO]; · iexact HO
    isplitl [HtB1]; · iexact HtB1
    isplitl [Hr1]
    · rw [payload_bar]; unfold barPay; rw [show fw (fw c 1) 1 = c from fw_fw_rev c 1]
      isplitl [Hr1]; · iexists fr; iexact Hr1
      iexact HrR1
    · iexact HrB1
  iintro HO
  sl_exec
  rw [dev3_eq c]
  iapply (Rounds.wp_signal 𝒱₀ ER (rd (sentAt m)) (c : Thread nD τ) none (dst := (fw c 2 : Thread nD τ)) (κ := K (fw c 2, 0))
      (d := 0) (by rw [duties_bar]; exact Finset.mem_univ _) ((amount_bar (sentAt m) (fw c 2) 0).trans (by decide)) () (owed0 c) rfl)
    $$ [HO HtB2 Hr0]
  · isplitr; · iexact HIb2
    isplitl [HO]; · iexact HO
    isplitl [HtB2]; · iexact HtB2
    isplitl [Hr0]
    · rw [payload_bar]; unfold barPay; rw [show fw (fw c 2) 0 = c from fw_fw_rev c 2]
      isplitl [Hr0]; · iexists fr; iexact Hr0
      iexact HrR0
    · iexact HrB2
  iintro HO
  sl_exec
  -- the wait for the three: the landing slots it will send into
  iapply (Rounds.wp_wait_rest_token 𝒱₀ ER (rd (sentAt m)) (c : Thread nD τ) none (κ := K (c, 0))
      (wpE_semWait_eq 𝒱₀ (c : Thread nD τ) none Set.univ) (Set.mem_univ _) () (O := owed0 c) (W := W) (R := 0) (m := 0) (T := ∅)
      (by rw [expect_bar]; decide)) $$ [HcB HO HaB]
  · isplitr; · iexact HIbar
    isplitl [HcB]; · iexact HcB
    isplitl [HO]; · iexact HO
    isplitr; · iapply (mayWait c (.reg barS) (n := 1) (by decide) (above_owed0 c)); iexact Hlev
    iexact HaB
  iintro ⟨HO, HaB, -, Hpay⟩
  ihave Hp := (Entails.of_eq (rest_bar (sentAt m) c)) $$ Hpay
  unfold barPay
  icases Hp with ⟨⟨⟨%g0, Hf0⟩, #HrF0⟩, ⟨⟨%g1, Hf1⟩, #HrF1⟩, ⟨%g2, Hf2⟩, #HrF2⟩
  have hw0 : ∀ q : DmaSem sig, q.val < 14 → ((levAts L lv : sProp 𝕄) ⊢ MayWait (c : Thread nD τ) (.dma q) () (owed0 c)) := fun q hq =>
    mayWait c (.dma q) (n := 0) (by unfold semLevel; dsimp only; rw [if_neg (by omega)]) ((above_owed0 c).mono (Nat.zero_le 1))
  have hw1 : ∀ q : DmaSem sig, q.val < 14 → ((levAts L lv : sProp 𝕄) ⊢ MayWait (c : Thread nD τ) (.dma q) () (owed1 c)) := fun q hq =>
    mayWait c (.dma q) (n := 0) (by unfold semLevel; dsimp only; rw [if_neg (by omega)]) ((above_owed1 c).mono (Nat.zero_le 1))
  have hw2 : ∀ q : DmaSem sig, q.val < 14 → ((levAts L lv : sProp 𝕄) ⊢ MayWait (c : Thread nD τ) (.dma q) () (owed2 c)) := fun q hq =>
    mayWait c (.dma q) (n := 0) (by unfold semLevel; dsimp only; rw [if_neg (by omega)]) ((above_owed2 c).mono (Nat.zero_le 1))
  sl_exec
  -- send 0: the codes stored in its slot
  have hy0 : (ySlot 0).view.read (Elt F) (body_run.sl.Hy0_w1 m c fxv fy) = sentAt m c 0 :=
    (slot_store yM _ (fun _ => rfl) squeezes_S1x1024x512_S1024x512 shapeCasts_S1x1024x512_S1024x512 fy _).trans
      (congrArg (fun v => shapeCast S1024x512 v shapeCasts_S1x1024x512_S1024x512) (congrArg₂ k0_pay2 (load_x m c fxv) (load_w0 m c)))
  iapply (wp_send_k (sentAt m) c _ 0 (dev4_eq c) (K (c, 1)) (K (fw c 0, 4)) _ hy0 g0 (owed0 c) (owed1 c) rfl rfl _)
    $$ [Hy0 Hf0 HO HtS0 HtR0]
  · isplitr; · iexact HIs0
    isplitr; · iexact HIf0
    isplitl [Hy0]; · iexact Hy0
    isplitl [Hf0]; · iexact Hf0
    isplitl [HO]; · iexact HO
    isplitl [HtS0]; · iexact HtS0
    isplitr; · iexact HrS0
    isplitl [HtR0]; · iexact HtR0
    iexact HrF0
  iintro ⟨HcS0, HO⟩
  sl_exec
  -- send 1: the codes stored in its slot
  have hy1 : (ySlot 1).view.read (Elt F) (body_run.sl.Hy1_w1 m c fxv fy) = sentAt m c 1 :=
    (slot_store yM _ (fun _ => rfl) squeezes_S1x1024x512_S1024x512 shapeCasts_S1x1024x512_S1024x512 fy _).trans
      (congrArg (fun v => shapeCast S1024x512 v shapeCasts_S1x1024x512_S1024x512) (congrArg₂ k0_pay3 (load_x m c fxv) (load_w1 m c)))
  iapply (wp_send_k (sentAt m) c _ 1 (dev5_eq c) (K (c, 2)) (K (fw c 1, 5)) _ hy1 g1 (owed1 c) (owed2 c) rfl rfl _)
    $$ [Hy1 Hf1 HO HtS1 HtR1]
  · isplitr; · iexact HIs1
    isplitr; · iexact HIf1
    isplitl [Hy1]; · iexact Hy1
    isplitl [Hf1]; · iexact Hf1
    isplitl [HO]; · iexact HO
    isplitl [HtS1]; · iexact HtS1
    isplitr; · iexact HrS1
    isplitl [HtR1]; · iexact HtR1
    iexact HrF1
  iintro ⟨HcS1, HO⟩
  sl_exec
  -- send 2: the codes stored in its slot
  have hy2 : (ySlot 2).view.read (Elt F) (body_run.sl.Hy2_w1 m c fxv fy) = sentAt m c 2 :=
    (slot_store yM _ (fun _ => rfl) squeezes_S1x1024x512_S1024x512 shapeCasts_S1x1024x512_S1024x512 fy _).trans
      (congrArg (fun v => shapeCast S1024x512 v shapeCasts_S1x1024x512_S1024x512) (congrArg₂ k0_pay4 (load_x m c fxv) (load_w2 m c)))
  iapply (wp_send_k (sentAt m) c _ 2 (dev6_eq c) (K (c, 3)) (K (fw c 2, 6)) _ hy2 g2 (owed2 c) (0) rfl rfl _)
    $$ [Hy2 Hf2 HO HtS2 HtR2]
  · isplitr; · iexact HIs2
    isplitr; · iexact HIf2
    isplitl [Hy2]; · iexact Hy2
    isplitl [Hf2]; · iexact Hf2
    isplitl [HO]; · iexact HO
    isplitl [HtS2]; · iexact HtS2
    isplitr; · iexact HrS2
    isplitl [HtR2]; · iexact HtR2
    iexact HrF2
  iintro ⟨HcS2, HO⟩
  sl_exec
  -- what landed in slot 0, and the slot sent before it back
  ihave Hr0 := (Entails.of_eq (all_recv (sentAt m) c 0)) $$ HaR0_pay1
  unfold recvPay rPts
  sl_exec
  -- what landed in slot 1, and the slot sent before it back
  ihave Hr1 := (Entails.of_eq (all_recv (sentAt m) c 1)) $$ HaR1_pay1
  unfold recvPay rPts
  sl_exec
  -- what landed in slot 2, and the slot sent before it back
  ihave Hr2 := (Entails.of_eq (all_recv (sentAt m) c 2)) $$ HaR2_pay1
  unfold recvPay rPts
  sl_exec
  -- the row blocks of the result
  have hscl : body_run.sl.r m c = sclAt m c :=
    congrArg₂ k0_pay1 (Memref.readAt_unit_zero (Elt F) cc0_stg0_0 hz1 _ _) (Memref.readAt_unit_zero (Elt F) cc0_stg1_0 hz1 _ _)
  have ho0 : body_run.sl.dma3 m c fob = outAt m c 0 :=
    (slot_store obM _ (fun _ => rfl) squeezes_S1x1024x512_S1024x512 shapeCasts_S1x1024x512_S1024x512 fob _).trans
      (congrArg (fun v => shapeCast S1024x512 v shapeCasts_S1x1024x512_S1024x512) (congrArg₂ k0_pay7 hscl (load_r0 m c)))
  ihave Ho0 := ((pointsTo_rep_entails (c : Thread nD τ) (outRow c 0) _ fullShare).trans
    (Entails.of_eq (by rw [View.read_writes_whole, ho0]))) $$ Ho0
  have ho1 : body_run.sl.dma3_1 m c fob = outAt m c 1 :=
    (slot_store obM _ (fun _ => rfl) squeezes_S1x1024x512_S1024x512 shapeCasts_S1x1024x512_S1024x512 fob _).trans
      (congrArg (fun v => shapeCast S1024x512 v shapeCasts_S1x1024x512_S1024x512) (congrArg₂ k0_pay8 hscl (load_r1 m c)))
  ihave Ho1 := ((pointsTo_rep_entails (c : Thread nD τ) (outRow c 1) _ fullShare).trans
    (Entails.of_eq (by rw [View.read_writes_whole, ho1]))) $$ Ho1
  have ho2 : body_run.sl.dma3_2 m c fob = outAt m c 2 :=
    (slot_store obM _ (fun _ => rfl) squeezes_S1x1024x512_S1024x512 shapeCasts_S1x1024x512_S1024x512 fob _).trans
      (congrArg (fun v => shapeCast S1024x512 v shapeCasts_S1x1024x512_S1024x512) (congrArg₂ k0_pay9 hscl (load_r2 m c)))
  ihave Ho2 := ((pointsTo_rep_entails (c : Thread nD τ) (outRow c 2) _ fullShare).trans
    (Entails.of_eq (by rw [View.read_writes_whole, ho2]))) $$ Ho2
  have ho3 : body_run.sl.dma4 m c fxv fob = outAt m c 3 :=
    (slot_store obM _ (fun _ => rfl) squeezes_S1x1024x512_S1024x512 shapeCasts_S1x1024x512_S1024x512 fob _).trans
      (congrArg (fun v => shapeCast S1024x512 v shapeCasts_S1x1024x512_S1024x512) (congrFun (congr (congr (congrArg k0_pay6 hscl) (load_x m c fxv)) (congrArg k0_pay5 (load_w3 m c))) (constantI S1024x512 32 0#32)))
  ihave Ho3 := ((pointsTo_rep_entails (c : Thread nD τ) (outRow c 3) _ fullShare).trans
    (Entails.of_eq (by rw [View.read_writes_whole, ho3]))) $$ Ho3
  -- the seven cells close: their counters at zero are the core's again
  imod (Rounds.cell_close ER (rd (sentAt m)) (Set.mem_univ (K (c, 0))) (fun h => h) (R := 0 + 1) (duties_later (sentAt m) (barCell c))) $$ [HaB] with HzB
  · isplitr; · iexact HIbar
    iexact HaB
  imod (Rounds.cell_close ER (rd (sentAt m)) (Set.mem_univ (K (c, 1))) (fun h => h) (R := 0 + 1) (duties_later (sentAt m) (sendCell c 0))) $$ [HaS0] with HzS0
  · isplitr; · iexact HIs0
    iexact HaS0
  imod (Rounds.cell_close ER (rd (sentAt m)) (Set.mem_univ (K (c, 2))) (fun h => h) (R := 0 + 1) (duties_later (sentAt m) (sendCell c 1))) $$ [HaS1] with HzS1
  · isplitr; · iexact HIs1
    iexact HaS1
  imod (Rounds.cell_close ER (rd (sentAt m)) (Set.mem_univ (K (c, 3))) (fun h => h) (R := 0 + 1) (duties_later (sentAt m) (sendCell c 2))) $$ [HaS2] with HzS2
  · isplitr; · iexact HIs2
    iexact HaS2
  imod (Rounds.cell_close ER (rd (sentAt m)) (Set.mem_univ (K (c, 4))) (fun h => h) (R := 0 + 1) (duties_later (sentAt m) (recvCell c 0))) $$ [HaR0] with HzR0
  · isplitr; · iexact HIr0
    iexact HaR0
  imod (Rounds.cell_close ER (rd (sentAt m)) (Set.mem_univ (K (c, 5))) (fun h => h) (R := 0 + 1) (duties_later (sentAt m) (recvCell c 1))) $$ [HaR1] with HzR1
  · isplitr; · iexact HIr1
    iexact HaR1
  imod (Rounds.cell_close ER (rd (sentAt m)) (Set.mem_univ (K (c, 6))) (fun h => h) (R := 0 + 1) (duties_later (sentAt m) (recvCell c 2))) $$ [HaR2] with HzR2
  · isplitr; · iexact HIr2
    iexact HaR2
  ihave Hy0 := (Entails.of_eq (all_send (sentAt m) c 0)) $$ HaS0_pay1
  ihave Hy1 := (Entails.of_eq (all_send (sentAt m) c 1)) $$ HaS1_pay1
  ihave Hy2 := (Entails.of_eq (all_send (sentAt m) c 2)) $$ HaS2_pay1
  rw [wp_ret]; imodintro
  iapply Hk
  unfold done sendPay rPts
  isplitl [Hx]; · iexact Hx
  isplitl [Hw0]; · iexact Hw0
  isplitl [Hw1]; · iexact Hw1
  isplitl [Hw2]; · iexact Hw2
  isplitl [Hw3]; · iexact Hw3
  isplitl [Ho0]; · iexact Ho0
  isplitl [Ho1]; · iexact Ho1
  isplitl [Ho2]; · iexact Ho2
  isplitl [Ho3]; · iexact Ho3
  isplitl [Hsc0]; · iexact Hsc0
  isplitl [Hsc1]; · iexact Hsc1
  isplitl [Hxv]; · iexists _; iexact Hxv
  isplitl [Hv0]; · iexists _; iexact Hv0
  isplitl [Hv1]; · iexists _; iexact Hv1
  isplitl [Hv2]; · iexists _; iexact Hv2
  isplitl [Hv3]; · iexists _; iexact Hv3
  isplitl [Hy0]; · iexact Hy0
  isplitl [Hy1]; · iexact Hy1
  isplitl [Hy2]; · iexact Hy2
  isplitl [Hr0]; · iexists _; iexact Hr0
  isplitl [Hr1]; · iexists _; iexact Hr1
  isplitl [Hr2]; · iexists _; iexact Hr2
  isplitl [Hb0]; · iexists _; iexact Hb0
  isplitl [Hb1]; · iexists _; iexact Hb1
  isplitl [Hb2]; · iexists _; iexact Hb2
  isplitl [Hb3]; · iexists _; iexact Hb3
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [HzS0]; · iexact HzS0
  isplitl [HzS1]; · iexact HzS1
  isplitl [HzS2]; · iexact HzS2
  isplitl [HzR0]; · iexact HzR0
  isplitl [HzR1]; · iexact HzR1
  isplitl [HzR2]; · iexact HzR2
  isplitl [HzB]; · iexact HzB
  iexists _; iexact HO

end Cert.Wire

end
-- ==== Proof.Blocks.lean ====
module

public import proofs.«01_k».proof.Proof.Slots
public import Idealize.ShloMosaic.Lib.Ring

@[expose] public section

set_option maxRecDepth 16384

noncomputable section

namespace Cert.Wire

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

/-! Cutting a buffer into the blocks the kernel handles, and joining it again: each element lies in the block its KEY names. -/

section Keys
variable {ℓ : Loc nD τ sig} {B : Type} [DecidableEq B] [Fintype B] (I : B → Finset (Idx ℓ)) (key : Idx ℓ → B)

theorem keyed_disjoint (h : ∀ b i, i ∈ I b ↔ key i = b) (b b' : B) (hb : b ≠ b') : Disjoint (I b) (I b') :=
  Finset.disjoint_left.mpr fun i hi hi' => hb (((h b i).mp hi).symm.trans ((h b' i).mp hi'))
theorem keyed_cover (h : ∀ b i, i ∈ I b ↔ key i = b) : Finset.univ.biUnion I = Finset.univ :=
  Finset.eq_univ_iff_forall.mpr fun i => Finset.mem_biUnion.mpr ⟨key i, Finset.mem_univ _, (h _ i).mpr rfl⟩

/-- A buffer whole is its keyed blocks; -/
theorem cut_keyed (h : ∀ b i, i ∈ I b ↔ key i = b) (f : Buf (Elt F) ℓ) :
    (ℓ ↦{fullShare} f : sProp 𝕄) = bigSep Finset.univ fun b => ℓ ↦[I b]{fullShare} f :=
  pointsTo_blocks I (keyed_disjoint I key h) (keyed_cover I key h) f
/-- the blocks, each at some contents, are the buffer whole at some contents; -/
theorem join_keyed (h : ∀ b i, i ∈ I b ↔ key i = b) (f₀ : Buf (Elt F) ℓ) :
    bigSep Finset.univ (fun b => iprop(∃ f, ℓ ↦[I b]{fullShare} f)) ⊢ (iprop(∃ f, ℓ ↦{fullShare} f) : sProp 𝕄) :=
  pointsTo_blocks_join_exists I (keyed_disjoint I key h) (keyed_cover I key h) f₀
/-- at contents of their own, whole at one that agrees with each. -/
theorem join_keyed_at (h : ∀ b i, i ∈ I b ↔ key i = b) (fs : B → Buf (Elt F) ℓ) (f₀ : Buf (Elt F) ℓ) :
    bigSep Finset.univ (fun b => ℓ ↦[I b]{fullShare} fs b)
      ⊢ (iprop(∃ g, ⌜∀ b, ∀ i ∈ I b, g i = fs b i⌝ ∗ ℓ ↦{fullShare} g) : sProp 𝕄) := by
  refine (pointsTo_biUnion_join Finset.univ I fs f₀ (fun b _ b' _ hb => keyed_disjoint I key h b b' hb)).trans ?_
  rw [keyed_cover I key h]
  iintro ⟨%g, %hg, H⟩
  iexists g
  isplitr
  · ipureintro; exact fun b => hg b (Finset.mem_univ _)
  · iexact H
end Keys

theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-! ## Where the device-dependent blocks lie -/

theorem off_w0 (c : Dev nD) : k0_off1 c 0#32 = ![0, 512 * ((c.val + 1) % 4)] := by revert c; decide +kernel
theorem off_w1 (c : Dev nD) : k0_off1 c 1#32 = ![0, 512 * ((c.val + 2) % 4)] := by revert c; decide +kernel
theorem off_w2 (c : Dev nD) : k0_off1 c 2#32 = ![0, 512 * ((c.val + 3) % 4)] := by revert c; decide +kernel
theorem off_w3 (c : Dev nD) : k0_off1 c 3#32 = ![0, 512 * ((c.val + 4) % 4)] := by revert c; decide +kernel
theorem off_o0 (c : Dev nD) : k0_off3 c 1#32 = ![1024 * ((c.val + 3) % 4), 0] := by revert c; decide +kernel
theorem off_o1 (c : Dev nD) : k0_off3 c 2#32 = ![1024 * ((c.val + 2) % 4), 0] := by revert c; decide +kernel
theorem off_o2 (c : Dev nD) : k0_off3 c 3#32 = ![1024 * ((c.val + 1) % 4), 0] := by revert c; decide +kernel
/-- The elements of each block and slot. -/
abbrev wSet (c : Dev nD) (j : Fin 4) : Finset S4096x2048.Idx := match j with
  | 0 => (wCol c 0).view.set
  | 1 => (wCol c 1).view.set
  | 2 => (wCol c 2).view.set
  | 3 => (wCol c 3).view.set
abbrev oSet (c : Dev nD) (j : Fin 4) : Finset S4096x512.Idx := match j with
  | 0 => (outRow c 0).view.set
  | 1 => (outRow c 1).view.set
  | 2 => (outRow c 2).view.set
  | 3 => (outRow c 3).view.set
abbrev wvSet (c : Dev nD) (j : Fin 4) : Finset S4x4096x512.Idx := match j with
  | 0 => (wvSlot 0).view.set
  | 1 => (wvSlot 1).view.set
  | 2 => (wvSlot 2).view.set
  | 3 => (wvSlot 3).view.set
abbrev obSet (c : Dev nD) (j : Fin 4) : Finset S4x1024x512.Idx := match j with
  | 0 => (obSlot 0).view.set
  | 1 => (obSlot 1).view.set
  | 2 => (obSlot 2).view.set
  | 3 => (obSlot 3).view.set
abbrev ySet (c : Dev nD) (j : Fin 3) : Finset S3x1024x512.Idx := match j with
  | 0 => (ySlot 0).view.set
  | 1 => (ySlot 1).view.set
  | 2 => (ySlot 2).view.set
abbrev rSet (c : Dev nD) (j : Fin 3) : Finset S3x1024x512.Idx := match j with
  | 0 => (rSlot 0).view.set
  | 1 => (rSlot 1).view.set
  | 2 => (rSlot 2).view.set

theorem off_o3 (c : Dev nD) : k0_off2 c = ![1024 * ((c.val + 0) % 4), 0] := by revert c; decide +kernel

/-- The column block of `w` an element lies in, by the order device `c` reads them; -/
def wKey (c : Dev nD) (i : S4096x2048.Idx) : Fin 4 := ⟨((i 1).val / 512 + 3 - c.val) % 4, Nat.mod_lt _ (by decide)⟩
/-- the row block of the result, by the order it writes them. -/
def oKey (c : Dev nD) (i : S4096x512.Idx) : Fin 4 := ⟨(c.val + 3 - (i 0).val / 1024) % 4, Nat.mod_lt _ (by decide)⟩

theorem mem_w (c : Dev nD) (j : Fin 4) (i : S4096x2048.Idx) : i ∈ wSet c j ↔ wKey c i = j := by
  have h0 : (i 0).val < 4096 := (i 0).isLt
  have h1 : (i 1).val < 2048 := (i 1).isLt
  have hc : c.val < 4 := c.isLt
  have key (b : Nat) (hb : b < 4) (off : Fin 2 → Nat) (inb) (ho : off = ![0, 512 * ((c.val + (1 + b)) % 4)]) :
      i ∈ ((View.whole main_arg1).slice (Rect.unit (s := S4096x2048) off S4096x512.size inb)).set ↔ wKey c i = ⟨b, hb⟩ := by
    subst ho
    rw [View.set_slice_whole, Rect.mem_set_unit, Fin.ext_iff]
    show (∀ a : Fin 2, (![0, 512 * ((c.val + (1 + b)) % 4)] : Fin 2 → Nat) a ≤ (i a).val
      ∧ (i a).val < (![0, 512 * ((c.val + (1 + b)) % 4)] : Fin 2 → Nat) a + S4096x512.size a) ↔ ((i 1).val / 512 + 3 - c.val) % 4 = b
    refine ⟨fun h => ?_, fun h a => ?_⟩
    · have h' : 512 * ((c.val + (1 + b)) % 4) ≤ (i 1).val ∧ (i 1).val < 512 * ((c.val + (1 + b)) % 4) + 512 := h 1
      omega
    · fin_cases a
      · show 0 ≤ (i 0).val ∧ (i 0).val < 0 + 4096
        omega
      · show 512 * ((c.val + (1 + b)) % 4) ≤ (i 1).val ∧ (i 1).val < 512 * ((c.val + (1 + b)) % 4) + 512
        omega
  fin_cases j
  · exact key 0 (by decide) _ _ (off_w0 c)
  · exact key 1 (by decide) _ _ (off_w1 c)
  · exact key 2 (by decide) _ _ (off_w2 c)
  · exact key 3 (by decide) _ _ (off_w3 c)

theorem mem_o (c : Dev nD) (j : Fin 4) (i : S4096x512.Idx) : i ∈ oSet c j ↔ oKey c i = j := by
  have h0 : (i 0).val < 4096 := (i 0).isLt
  have h1 : (i 1).val < 512 := (i 1).isLt
  have hc : c.val < 4 := c.isLt
  have key (b : Nat) (hb : b < 4) (off : Fin 2 → Nat) (inb) (ho : off = ![1024 * ((c.val + (3 - b)) % 4), 0]) :
      i ∈ ((View.whole main_v1).slice (Rect.unit (s := S4096x512) off S1024x512.size inb)).set ↔ oKey c i = ⟨b, hb⟩ := by
    subst ho
    rw [View.set_slice_whole, Rect.mem_set_unit, Fin.ext_iff]
    show (∀ a : Fin 2, (![1024 * ((c.val + (3 - b)) % 4), 0] : Fin 2 → Nat) a ≤ (i a).val
      ∧ (i a).val < (![1024 * ((c.val + (3 - b)) % 4), 0] : Fin 2 → Nat) a + S1024x512.size a) ↔ (c.val + 3 - (i 0).val / 1024) % 4 = b
    refine ⟨fun h => ?_, fun h a => ?_⟩
    · have h' : 1024 * ((c.val + (3 - b)) % 4) ≤ (i 0).val ∧ (i 0).val < 1024 * ((c.val + (3 - b)) % 4) + 1024 := h 0
      omega
    · fin_cases a
      · show 1024 * ((c.val + (3 - b)) % 4) ≤ (i 0).val ∧ (i 0).val < 1024 * ((c.val + (3 - b)) % 4) + 1024
        omega
      · show 0 ≤ (i 1).val ∧ (i 1).val < 0 + 512
        omega
  fin_cases j
  · exact key 0 (by decide) _ _ (off_o0 c)
  · exact key 1 (by decide) _ _ (off_o1 c)
  · exact key 2 (by decide) _ _ (off_o2 c)
  · exact key 3 (by decide) _ _ (off_o3 c)

/-! ## Where the slots lie: by the leading coordinate -/

def slotKey4_4096 (i : S4x4096x512.Idx) : Fin 4 := ⟨(i 0).val, (i 0).isLt⟩
def slotKey4_1024 (i : S4x1024x512.Idx) : Fin 4 := ⟨(i 0).val, (i 0).isLt⟩
def slotKey3_1024 (i : S3x1024x512.Idx) : Fin 3 := ⟨(i 0).val, (i 0).isLt⟩

theorem rectKey4_4096 (b : Nat) (hb : b < 4) (inb) (i : S4x4096x512.Idx) :
    i ∈ (Rect.unit (s := S4x4096x512) ![b, 0, 0] S1x4096x512.size inb).set ↔ slotKey4_4096 i = ⟨b, hb⟩ := by
  have h1 : (i 1).val < 4096 := (i 1).isLt
  have h2 : (i 2).val < 512 := (i 2).isLt
  rw [Rect.mem_set_unit, Fin.ext_iff]
  show (∀ a : Fin 3, (![b, 0, 0] : Fin 3 → Nat) a ≤ (i a).val ∧ (i a).val < (![b, 0, 0] : Fin 3 → Nat) a + S1x4096x512.size a) ↔ (i 0).val = b
  refine ⟨fun h => ?_, fun h a => ?_⟩
  · have h0 : b ≤ (i 0).val ∧ (i 0).val < b + 1 := h 0
    omega
  · fin_cases a
    · show b ≤ (i 0).val ∧ (i 0).val < b + 1
      omega
    · show 0 ≤ (i 1).val ∧ (i 1).val < 0 + 4096
      omega
    · show 0 ≤ (i 2).val ∧ (i 2).val < 0 + 512
      omega
theorem wvSet_0 (c : Dev nD) : wvSet c 0 = (Rect.unit (s := S4x4096x512) ![0, 0, 0] S1x4096x512.size inb_S4x4096x512_S1x4096x512_0_0_0).set :=
  (Memref.set_view_squeeze (wvM.slice (Rect.unit (s := S4x4096x512) ![0, 0, 0] S1x4096x512.size inb_S4x4096x512_S1x4096x512_0_0_0) (fun _ => rfl)) squeezes_S1x4096x512_S4096x512).trans
    (View.set_slice_whole cc0_scratch1 (Rect.unit (s := S4x4096x512) ![0, 0, 0] S1x4096x512.size inb_S4x4096x512_S1x4096x512_0_0_0))
theorem wvSet_1 (c : Dev nD) : wvSet c 1 = (Rect.unit (s := S4x4096x512) ![1, 0, 0] S1x4096x512.size inb_S4x4096x512_S1x4096x512_1_0_0).set :=
  (Memref.set_view_squeeze (wvM.slice (Rect.unit (s := S4x4096x512) ![1, 0, 0] S1x4096x512.size inb_S4x4096x512_S1x4096x512_1_0_0) (fun _ => rfl)) squeezes_S1x4096x512_S4096x512).trans
    (View.set_slice_whole cc0_scratch1 (Rect.unit (s := S4x4096x512) ![1, 0, 0] S1x4096x512.size inb_S4x4096x512_S1x4096x512_1_0_0))
theorem wvSet_2 (c : Dev nD) : wvSet c 2 = (Rect.unit (s := S4x4096x512) ![2, 0, 0] S1x4096x512.size inb_S4x4096x512_S1x4096x512_2_0_0).set :=
  (Memref.set_view_squeeze (wvM.slice (Rect.unit (s := S4x4096x512) ![2, 0, 0] S1x4096x512.size inb_S4x4096x512_S1x4096x512_2_0_0) (fun _ => rfl)) squeezes_S1x4096x512_S4096x512).trans
    (View.set_slice_whole cc0_scratch1 (Rect.unit (s := S4x4096x512) ![2, 0, 0] S1x4096x512.size inb_S4x4096x512_S1x4096x512_2_0_0))
theorem wvSet_3 (c : Dev nD) : wvSet c 3 = (Rect.unit (s := S4x4096x512) ![3, 0, 0] S1x4096x512.size inb_S4x4096x512_S1x4096x512_3_0_0).set :=
  (Memref.set_view_squeeze (wvM.slice (Rect.unit (s := S4x4096x512) ![3, 0, 0] S1x4096x512.size inb_S4x4096x512_S1x4096x512_3_0_0) (fun _ => rfl)) squeezes_S1x4096x512_S4096x512).trans
    (View.set_slice_whole cc0_scratch1 (Rect.unit (s := S4x4096x512) ![3, 0, 0] S1x4096x512.size inb_S4x4096x512_S1x4096x512_3_0_0))
theorem mem_wv (c : Dev nD) (j : Fin 4) (i : S4x4096x512.Idx) : i ∈ wvSet c j ↔ slotKey4_4096 i = j :=
  match j with
  | 0 => by rw [wvSet_0]; exact rectKey4_4096 0 (by decide) _ i
  | 1 => by rw [wvSet_1]; exact rectKey4_4096 1 (by decide) _ i
  | 2 => by rw [wvSet_2]; exact rectKey4_4096 2 (by decide) _ i
  | 3 => by rw [wvSet_3]; exact rectKey4_4096 3 (by decide) _ i

theorem rectKey4_1024 (b : Nat) (hb : b < 4) (inb) (i : S4x1024x512.Idx) :
    i ∈ (Rect.unit (s := S4x1024x512) ![b, 0, 0] S1x1024x512.size inb).set ↔ slotKey4_1024 i = ⟨b, hb⟩ := by
  have h1 : (i 1).val < 1024 := (i 1).isLt
  have h2 : (i 2).val < 512 := (i 2).isLt
  rw [Rect.mem_set_unit, Fin.ext_iff]
  show (∀ a : Fin 3, (![b, 0, 0] : Fin 3 → Nat) a ≤ (i a).val ∧ (i a).val < (![b, 0, 0] : Fin 3 → Nat) a + S1x1024x512.size a) ↔ (i 0).val = b
  refine ⟨fun h => ?_, fun h a => ?_⟩
  · have h0 : b ≤ (i 0).val ∧ (i 0).val < b + 1 := h 0
    omega
  · fin_cases a
    · show b ≤ (i 0).val ∧ (i 0).val < b + 1
      omega
    · show 0 ≤ (i 1).val ∧ (i 1).val < 0 + 1024
      omega
    · show 0 ≤ (i 2).val ∧ (i 2).val < 0 + 512
      omega
theorem obSet_0 (c : Dev nD) : obSet c 0 = (Rect.unit (s := S4x1024x512) ![0, 0, 0] S1x1024x512.size inb_S4x1024x512_S1x1024x512_0_0_0).set :=
  (Memref.set_view_squeeze (obM.slice (Rect.unit (s := S4x1024x512) ![0, 0, 0] S1x1024x512.size inb_S4x1024x512_S1x1024x512_0_0_0) (fun _ => rfl)) squeezes_S1x1024x512_S1024x512).trans
    (View.set_slice_whole cc0_scratch4 (Rect.unit (s := S4x1024x512) ![0, 0, 0] S1x1024x512.size inb_S4x1024x512_S1x1024x512_0_0_0))
theorem obSet_1 (c : Dev nD) : obSet c 1 = (Rect.unit (s := S4x1024x512) ![1, 0, 0] S1x1024x512.size inb_S4x1024x512_S1x1024x512_1_0_0).set :=
  (Memref.set_view_squeeze (obM.slice (Rect.unit (s := S4x1024x512) ![1, 0, 0] S1x1024x512.size inb_S4x1024x512_S1x1024x512_1_0_0) (fun _ => rfl)) squeezes_S1x1024x512_S1024x512).trans
    (View.set_slice_whole cc0_scratch4 (Rect.unit (s := S4x1024x512) ![1, 0, 0] S1x1024x512.size inb_S4x1024x512_S1x1024x512_1_0_0))
theorem obSet_2 (c : Dev nD) : obSet c 2 = (Rect.unit (s := S4x1024x512) ![2, 0, 0] S1x1024x512.size inb_S4x1024x512_S1x1024x512_2_0_0).set :=
  (Memref.set_view_squeeze (obM.slice (Rect.unit (s := S4x1024x512) ![2, 0, 0] S1x1024x512.size inb_S4x1024x512_S1x1024x512_2_0_0) (fun _ => rfl)) squeezes_S1x1024x512_S1024x512).trans
    (View.set_slice_whole cc0_scratch4 (Rect.unit (s := S4x1024x512) ![2, 0, 0] S1x1024x512.size inb_S4x1024x512_S1x1024x512_2_0_0))
theorem obSet_3 (c : Dev nD) : obSet c 3 = (Rect.unit (s := S4x1024x512) ![3, 0, 0] S1x1024x512.size inb_S4x1024x512_S1x1024x512_3_0_0).set :=
  (Memref.set_view_squeeze (obM.slice (Rect.unit (s := S4x1024x512) ![3, 0, 0] S1x1024x512.size inb_S4x1024x512_S1x1024x512_3_0_0) (fun _ => rfl)) squeezes_S1x1024x512_S1024x512).trans
    (View.set_slice_whole cc0_scratch4 (Rect.unit (s := S4x1024x512) ![3, 0, 0] S1x1024x512.size inb_S4x1024x512_S1x1024x512_3_0_0))
theorem mem_ob (c : Dev nD) (j : Fin 4) (i : S4x1024x512.Idx) : i ∈ obSet c j ↔ slotKey4_1024 i = j :=
  match j with
  | 0 => by rw [obSet_0]; exact rectKey4_1024 0 (by decide) _ i
  | 1 => by rw [obSet_1]; exact rectKey4_1024 1 (by decide) _ i
  | 2 => by rw [obSet_2]; exact rectKey4_1024 2 (by decide) _ i
  | 3 => by rw [obSet_3]; exact rectKey4_1024 3 (by decide) _ i

theorem rectKey3_1024 (b : Nat) (hb : b < 3) (inb) (i : S3x1024x512.Idx) :
    i ∈ (Rect.unit (s := S3x1024x512) ![b, 0, 0] S1x1024x512.size inb).set ↔ slotKey3_1024 i = ⟨b, hb⟩ := by
  have h1 : (i 1).val < 1024 := (i 1).isLt
  have h2 : (i 2).val < 512 := (i 2).isLt
  rw [Rect.mem_set_unit, Fin.ext_iff]
  show (∀ a : Fin 3, (![b, 0, 0] : Fin 3 → Nat) a ≤ (i a).val ∧ (i a).val < (![b, 0, 0] : Fin 3 → Nat) a + S1x1024x512.size a) ↔ (i 0).val = b
  refine ⟨fun h => ?_, fun h a => ?_⟩
  · have h0 : b ≤ (i 0).val ∧ (i 0).val < b + 1 := h 0
    omega
  · fin_cases a
    · show b ≤ (i 0).val ∧ (i 0).val < b + 1
      omega
    · show 0 ≤ (i 1).val ∧ (i 1).val < 0 + 1024
      omega
    · show 0 ≤ (i 2).val ∧ (i 2).val < 0 + 512
      omega
theorem ySet_0 (c : Dev nD) : ySet c 0 = (Rect.unit (s := S3x1024x512) ![0, 0, 0] S1x1024x512.size inb_S3x1024x512_S1x1024x512_0_0_0).set :=
  (Memref.set_view_squeeze (yM.slice (Rect.unit (s := S3x1024x512) ![0, 0, 0] S1x1024x512.size inb_S3x1024x512_S1x1024x512_0_0_0) (fun _ => rfl)) squeezes_S1x1024x512_S1024x512).trans
    (View.set_slice_whole cc0_scratch2 (Rect.unit (s := S3x1024x512) ![0, 0, 0] S1x1024x512.size inb_S3x1024x512_S1x1024x512_0_0_0))
theorem ySet_1 (c : Dev nD) : ySet c 1 = (Rect.unit (s := S3x1024x512) ![1, 0, 0] S1x1024x512.size inb_S3x1024x512_S1x1024x512_1_0_0).set :=
  (Memref.set_view_squeeze (yM.slice (Rect.unit (s := S3x1024x512) ![1, 0, 0] S1x1024x512.size inb_S3x1024x512_S1x1024x512_1_0_0) (fun _ => rfl)) squeezes_S1x1024x512_S1024x512).trans
    (View.set_slice_whole cc0_scratch2 (Rect.unit (s := S3x1024x512) ![1, 0, 0] S1x1024x512.size inb_S3x1024x512_S1x1024x512_1_0_0))
theorem ySet_2 (c : Dev nD) : ySet c 2 = (Rect.unit (s := S3x1024x512) ![2, 0, 0] S1x1024x512.size inb_S3x1024x512_S1x1024x512_2_0_0).set :=
  (Memref.set_view_squeeze (yM.slice (Rect.unit (s := S3x1024x512) ![2, 0, 0] S1x1024x512.size inb_S3x1024x512_S1x1024x512_2_0_0) (fun _ => rfl)) squeezes_S1x1024x512_S1024x512).trans
    (View.set_slice_whole cc0_scratch2 (Rect.unit (s := S3x1024x512) ![2, 0, 0] S1x1024x512.size inb_S3x1024x512_S1x1024x512_2_0_0))
theorem mem_y (c : Dev nD) (j : Fin 3) (i : S3x1024x512.Idx) : i ∈ ySet c j ↔ slotKey3_1024 i = j :=
  match j with
  | 0 => by rw [ySet_0]; exact rectKey3_1024 0 (by decide) _ i
  | 1 => by rw [ySet_1]; exact rectKey3_1024 1 (by decide) _ i
  | 2 => by rw [ySet_2]; exact rectKey3_1024 2 (by decide) _ i

theorem rSet_0 (c : Dev nD) : rSet c 0 = (Rect.unit (s := S3x1024x512) ![0, 0, 0] S1x1024x512.size inb_S3x1024x512_S1x1024x512_0_0_0).set :=
  (Memref.set_view_squeeze (rM.slice (Rect.unit (s := S3x1024x512) ![0, 0, 0] S1x1024x512.size inb_S3x1024x512_S1x1024x512_0_0_0) (fun _ => rfl)) squeezes_S1x1024x512_S1024x512).trans
    (View.set_slice_whole cc0_scratch3 (Rect.unit (s := S3x1024x512) ![0, 0, 0] S1x1024x512.size inb_S3x1024x512_S1x1024x512_0_0_0))
theorem rSet_1 (c : Dev nD) : rSet c 1 = (Rect.unit (s := S3x1024x512) ![1, 0, 0] S1x1024x512.size inb_S3x1024x512_S1x1024x512_1_0_0).set :=
  (Memref.set_view_squeeze (rM.slice (Rect.unit (s := S3x1024x512) ![1, 0, 0] S1x1024x512.size inb_S3x1024x512_S1x1024x512_1_0_0) (fun _ => rfl)) squeezes_S1x1024x512_S1024x512).trans
    (View.set_slice_whole cc0_scratch3 (Rect.unit (s := S3x1024x512) ![1, 0, 0] S1x1024x512.size inb_S3x1024x512_S1x1024x512_1_0_0))
theorem rSet_2 (c : Dev nD) : rSet c 2 = (Rect.unit (s := S3x1024x512) ![2, 0, 0] S1x1024x512.size inb_S3x1024x512_S1x1024x512_2_0_0).set :=
  (Memref.set_view_squeeze (rM.slice (Rect.unit (s := S3x1024x512) ![2, 0, 0] S1x1024x512.size inb_S3x1024x512_S1x1024x512_2_0_0) (fun _ => rfl)) squeezes_S1x1024x512_S1024x512).trans
    (View.set_slice_whole cc0_scratch3 (Rect.unit (s := S3x1024x512) ![2, 0, 0] S1x1024x512.size inb_S3x1024x512_S1x1024x512_2_0_0))
theorem mem_r (c : Dev nD) (j : Fin 3) (i : S3x1024x512.Idx) : i ∈ rSet c j ↔ slotKey3_1024 i = j :=
  match j with
  | 0 => by rw [rSet_0]; exact rectKey3_1024 0 (by decide) _ i
  | 1 => by rw [rSet_1]; exact rectKey3_1024 1 (by decide) _ i
  | 2 => by rw [rSet_2]; exact rectKey3_1024 2 (by decide) _ i

/-! ## Cutting and joining -/

section Cut
variable (c : Dev nD)

theorem cut_w (f : Buf (Elt F) ((c : Thread nD τ).loc main_arg1)) :
    (((c : Thread nD τ).loc main_arg1) ↦{fullShare} f : sProp 𝕄) = iprop(((wCol c 0).view.loc (c : Thread nD τ) ↦[(wCol c 0).view.set]{fullShare} f)
      ∗ ((wCol c 1).view.loc (c : Thread nD τ) ↦[(wCol c 1).view.set]{fullShare} f)
      ∗ ((wCol c 2).view.loc (c : Thread nD τ) ↦[(wCol c 2).view.set]{fullShare} f)
      ∗ ((wCol c 3).view.loc (c : Thread nD τ) ↦[(wCol c 3).view.set]{fullShare} f)) :=
  (cut_keyed (ℓ := (c : Thread nD τ).loc main_arg1) (wSet c) (wKey c) (mem_w c) f).trans (bigSep_fin4 _)

theorem cut_o (f : Buf (Elt F) ((c : Thread nD τ).loc main_v1)) :
    (((c : Thread nD τ).loc main_v1) ↦{fullShare} f : sProp 𝕄) = iprop(((outRow c 0).view.loc (c : Thread nD τ) ↦[(outRow c 0).view.set]{fullShare} f)
      ∗ ((outRow c 1).view.loc (c : Thread nD τ) ↦[(outRow c 1).view.set]{fullShare} f)
      ∗ ((outRow c 2).view.loc (c : Thread nD τ) ↦[(outRow c 2).view.set]{fullShare} f)
      ∗ ((outRow c 3).view.loc (c : Thread nD τ) ↦[(outRow c 3).view.set]{fullShare} f)) :=
  (cut_keyed (ℓ := (c : Thread nD τ).loc main_v1) (oSet c) (oKey c) (mem_o c) f).trans (bigSep_fin4 _)

theorem cut_wv (f : Buf (Elt F) ((c : Thread nD τ).loc cc0_scratch1)) :
    (((c : Thread nD τ).loc cc0_scratch1) ↦{fullShare} f : sProp 𝕄) = iprop(((wvSlot 0).view.loc (c : Thread nD τ) ↦[(wvSlot 0).view.set]{fullShare} f)
      ∗ ((wvSlot 1).view.loc (c : Thread nD τ) ↦[(wvSlot 1).view.set]{fullShare} f)
      ∗ ((wvSlot 2).view.loc (c : Thread nD τ) ↦[(wvSlot 2).view.set]{fullShare} f)
      ∗ ((wvSlot 3).view.loc (c : Thread nD τ) ↦[(wvSlot 3).view.set]{fullShare} f)) :=
  (cut_keyed (ℓ := (c : Thread nD τ).loc cc0_scratch1) (wvSet c) (slotKey4_4096) (mem_wv c) f).trans (bigSep_fin4 _)
theorem join_wv (f₀ : Buf (Elt F) ((c : Thread nD τ).loc cc0_scratch1)) :
    iprop((∃ f, ((wvSlot 0).view.loc (c : Thread nD τ) ↦[(wvSlot 0).view.set]{fullShare} f))
      ∗ (∃ f, ((wvSlot 1).view.loc (c : Thread nD τ) ↦[(wvSlot 1).view.set]{fullShare} f))
      ∗ (∃ f, ((wvSlot 2).view.loc (c : Thread nD τ) ↦[(wvSlot 2).view.set]{fullShare} f))
      ∗ (∃ f, ((wvSlot 3).view.loc (c : Thread nD τ) ↦[(wvSlot 3).view.set]{fullShare} f))) ⊢ (iprop(∃ f, ((c : Thread nD τ).loc cc0_scratch1) ↦{fullShare} f) : sProp 𝕄) :=
  (Entails.of_eq (bigSep_fin4 (fun j => iprop(∃ f, ((c : Thread nD τ).loc cc0_scratch1) ↦[wvSet c j]{fullShare} f))).symm).trans
    (join_keyed (ℓ := (c : Thread nD τ).loc cc0_scratch1) (wvSet c) (slotKey4_4096) (mem_wv c) f₀)

theorem cut_ob (f : Buf (Elt F) ((c : Thread nD τ).loc cc0_scratch4)) :
    (((c : Thread nD τ).loc cc0_scratch4) ↦{fullShare} f : sProp 𝕄) = iprop(((obSlot 0).view.loc (c : Thread nD τ) ↦[(obSlot 0).view.set]{fullShare} f)
      ∗ ((obSlot 1).view.loc (c : Thread nD τ) ↦[(obSlot 1).view.set]{fullShare} f)
      ∗ ((obSlot 2).view.loc (c : Thread nD τ) ↦[(obSlot 2).view.set]{fullShare} f)
      ∗ ((obSlot 3).view.loc (c : Thread nD τ) ↦[(obSlot 3).view.set]{fullShare} f)) :=
  (cut_keyed (ℓ := (c : Thread nD τ).loc cc0_scratch4) (obSet c) (slotKey4_1024) (mem_ob c) f).trans (bigSep_fin4 _)
theorem join_ob (f₀ : Buf (Elt F) ((c : Thread nD τ).loc cc0_scratch4)) :
    iprop((∃ f, ((obSlot 0).view.loc (c : Thread nD τ) ↦[(obSlot 0).view.set]{fullShare} f))
      ∗ (∃ f, ((obSlot 1).view.loc (c : Thread nD τ) ↦[(obSlot 1).view.set]{fullShare} f))
      ∗ (∃ f, ((obSlot 2).view.loc (c : Thread nD τ) ↦[(obSlot 2).view.set]{fullShare} f))
      ∗ (∃ f, ((obSlot 3).view.loc (c : Thread nD τ) ↦[(obSlot 3).view.set]{fullShare} f))) ⊢ (iprop(∃ f, ((c : Thread nD τ).loc cc0_scratch4) ↦{fullShare} f) : sProp 𝕄) :=
  (Entails.of_eq (bigSep_fin4 (fun j => iprop(∃ f, ((c : Thread nD τ).loc cc0_scratch4) ↦[obSet c j]{fullShare} f))).symm).trans
    (join_keyed (ℓ := (c : Thread nD τ).loc cc0_scratch4) (obSet c) (slotKey4_1024) (mem_ob c) f₀)

theorem cut_y (f : Buf (Elt F) ((c : Thread nD τ).loc cc0_scratch2)) :
    (((c : Thread nD τ).loc cc0_scratch2) ↦{fullShare} f : sProp 𝕄) = iprop(((ySlot 0).view.loc (c : Thread nD τ) ↦[(ySlot 0).view.set]{fullShare} f)
      ∗ ((ySlot 1).view.loc (c : Thread nD τ) ↦[(ySlot 1).view.set]{fullShare} f)
      ∗ ((ySlot 2).view.loc (c : Thread nD τ) ↦[(ySlot 2).view.set]{fullShare} f)) :=
  (cut_keyed (ℓ := (c : Thread nD τ).loc cc0_scratch2) (ySet c) (slotKey3_1024) (mem_y c) f).trans (bigSep_fin3 _)
theorem join_y (f₀ : Buf (Elt F) ((c : Thread nD τ).loc cc0_scratch2)) :
    iprop((∃ f, ((ySlot 0).view.loc (c : Thread nD τ) ↦[(ySlot 0).view.set]{fullShare} f))
      ∗ (∃ f, ((ySlot 1).view.loc (c : Thread nD τ) ↦[(ySlot 1).view.set]{fullShare} f))
      ∗ (∃ f, ((ySlot 2).view.loc (c : Thread nD τ) ↦[(ySlot 2).view.set]{fullShare} f))) ⊢ (iprop(∃ f, ((c : Thread nD τ).loc cc0_scratch2) ↦{fullShare} f) : sProp 𝕄) :=
  (Entails.of_eq (bigSep_fin3 (fun j => iprop(∃ f, ((c : Thread nD τ).loc cc0_scratch2) ↦[ySet c j]{fullShare} f))).symm).trans
    (join_keyed (ℓ := (c : Thread nD τ).loc cc0_scratch2) (ySet c) (slotKey3_1024) (mem_y c) f₀)

theorem cut_r (f : Buf (Elt F) ((c : Thread nD τ).loc cc0_scratch3)) :
    (((c : Thread nD τ).loc cc0_scratch3) ↦{fullShare} f : sProp 𝕄) = iprop(((rSlot 0).view.loc (c : Thread nD τ) ↦[(rSlot 0).view.set]{fullShare} f)
      ∗ ((rSlot 1).view.loc (c : Thread nD τ) ↦[(rSlot 1).view.set]{fullShare} f)
      ∗ ((rSlot 2).view.loc (c : Thread nD τ) ↦[(rSlot 2).view.set]{fullShare} f)) :=
  (cut_keyed (ℓ := (c : Thread nD τ).loc cc0_scratch3) (rSet c) (slotKey3_1024) (mem_r c) f).trans (bigSep_fin3 _)
theorem join_r (f₀ : Buf (Elt F) ((c : Thread nD τ).loc cc0_scratch3)) :
    iprop((∃ f, ((rSlot 0).view.loc (c : Thread nD τ) ↦[(rSlot 0).view.set]{fullShare} f))
      ∗ (∃ f, ((rSlot 1).view.loc (c : Thread nD τ) ↦[(rSlot 1).view.set]{fullShare} f))
      ∗ (∃ f, ((rSlot 2).view.loc (c : Thread nD τ) ↦[(rSlot 2).view.set]{fullShare} f))) ⊢ (iprop(∃ f, ((c : Thread nD τ).loc cc0_scratch3) ↦{fullShare} f) : sProp 𝕄) :=
  (Entails.of_eq (bigSep_fin3 (fun j => iprop(∃ f, ((c : Thread nD τ).loc cc0_scratch3) ↦[rSet c j]{fullShare} f))).symm).trans
    (join_keyed (ℓ := (c : Thread nD τ).loc cc0_scratch3) (rSet c) (slotKey3_1024) (mem_r c) f₀)

/-- Contents of the result that read as block `j`. -/
def oRep (x : Fin 4 → S1024x512.Idx → Elt F .f32) (j : Fin 4) : Buf (Elt F) ((c : Thread nD τ).loc main_v1) := match j with
  | 0 => (outRow c 0).view.rep (x 0)
  | 1 => (outRow c 1).view.rep (x 1)
  | 2 => (outRow c 2).view.rep (x 2)
  | 3 => (outRow c 3).view.rep (x 3)

/-- The result's row blocks, each at contents of its own, are the result at one contents that reads as each. -/
theorem join_o (x : Fin 4 → S1024x512.Idx → Elt F .f32) (f₀ : Buf (Elt F) ((c : Thread nD τ).loc main_v1)) :
    iprop(((outRow c 0).view.loc (c : Thread nD τ) ↦[(outRow c 0).view.set]{fullShare} (outRow c 0).view.rep (x 0))
      ∗ ((outRow c 1).view.loc (c : Thread nD τ) ↦[(outRow c 1).view.set]{fullShare} (outRow c 1).view.rep (x 1))
      ∗ ((outRow c 2).view.loc (c : Thread nD τ) ↦[(outRow c 2).view.set]{fullShare} (outRow c 2).view.rep (x 2))
      ∗ ((outRow c 3).view.loc (c : Thread nD τ) ↦[(outRow c 3).view.set]{fullShare} (outRow c 3).view.rep (x 3)))
      ⊢ (iprop(∃ f : Buf (Elt F) ((c : Thread nD τ).loc main_v1), ⌜(outRow c 0).view.read (Elt F) f = x 0 ∧ (outRow c 1).view.read (Elt F) f = x 1 ∧ (outRow c 2).view.read (Elt F) f = x 2 ∧ (outRow c 3).view.read (Elt F) f = x 3⌝
          ∗ ((c : Thread nD τ).loc main_v1) ↦{fullShare} f) : sProp 𝕄) := by
  have e := bigSep_fin4 (fun j => (((c : Thread nD τ).loc main_v1) ↦[oSet c j]{fullShare} oRep c x j : sProp 𝕄))
  refine (Entails.of_eq e.symm).trans ?_
  refine (join_keyed_at (ℓ := (c : Thread nD τ).loc main_v1) (oSet c) (oKey c) (mem_o c) (oRep c x) f₀).trans ?_
  iintro ⟨%g, %hg, H⟩
  iexists g
  isplitr
  · ipureintro
    exact ⟨(View.read_congr (v := (outRow c 0).view) (hg 0)).trans (View.read_rep _ _),
      (View.read_congr (v := (outRow c 1).view) (hg 1)).trans (View.read_rep _ _),
      (View.read_congr (v := (outRow c 2).view) (hg 2)).trans (View.read_rep _ _),
      (View.read_congr (v := (outRow c 3).view) (hg 3)).trans (View.read_rep _ _)⟩
  · iexact H

end Cut

end Cert.Wire

end
-- ==== Proof.Ring.lean ====
/-
# The launch: the devices' rounds, dealt

The launch mints, per device, the rounds of its seven cells between devices (its barrier cell, three send cells, three
receive cells) and the tokens of their nine duties. Each device's cells are allocated as invariants, every device learns
every cell's name, and each token goes to the device that pays the duty: duty `d` of a barrier cell to the device `d + 1`
ahead of it, the duty of receive cell `k` to the device `k + 1` behind it, a send cell's stays. The nine semaphores of the
local copies stay counters at zero.
-/
module

public import proofs.«01_k».proof.Proof.Body
public import proofs.«01_k».proof.Proof.Blocks

@[expose] public section

set_option maxRecDepth 16384

noncomputable section

namespace Cert.Wire

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (sent : Dev nD → Fin 3 → S1024x512.Idx → Elt F .i16)

/-! ## The cells and the tokens -/

/-- The kernel's own semaphores: nine of the local copies, three send, three receive; -/
abbrev osem : Fin 15 → SemLoc sig := fun
  | 0 => .dma (2 : DmaSem sig) | 1 => .dma (3 : DmaSem sig) | 2 => .dma (4 : DmaSem sig) | 3 => .dma (5 : DmaSem sig) | 4 => .dma (6 : DmaSem sig) | 5 => .dma (7 : DmaSem sig) | 6 => .dma (8 : DmaSem sig) | 7 => .dma (9 : DmaSem sig) | 8 => .dma (10 : DmaSem sig)
  | 9 => .dma (sendS 0) | 10 => .dma (sendS 1) | 11 => .dma (sendS 2) | 12 => .dma (recvS 0) | 13 => .dma (recvS 1) | 14 => .dma (recvS 2)
/-- those between devices, with the barrier semaphore. -/
abbrev csem : Fin 7 → SemLoc sig := fun
  | 0 => .reg barS | 1 => .dma (sendS 0) | 2 => .dma (sendS 1) | 3 => .dma (sendS 2) | 4 => .dma (recvS 0) | 5 => .dma (recvS 1) | 6 => .dma (recvS 2)
abbrev kcell (ck : Dev nD × Fin 7) : GSem nD τ sig := ((ck.1 : Thread nD τ), csem ck.2)

theorem ownSemFacts : Pipeline.OwnSemFacts cfg0.spec osem := by decide

theorem csem_injective : Function.Injective csem := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_injective h2]
def ringCells : Finset (GSem nD τ sig) := Finset.univ.map ⟨kcell, kcell_injective⟩

/-- The cell and the duty of a device's nine tokens. -/
abbrev tokSem : Fin 9 → SemLoc sig × Fin 3 := fun
  | 0 => (.reg barS, 0) | 1 => (.reg barS, 1) | 2 => (.reg barS, 2)
  | 3 => (.dma (sendS 0), 0) | 4 => (.dma (sendS 1), 0) | 5 => (.dma (sendS 2), 0)
  | 6 => (.dma (recvS 0), 0) | 7 => (.dma (recvS 1), 0) | 8 => (.dma (recvS 2), 0)
abbrev tokOf (cj : Dev nD × Fin 9) : GSem nD τ sig × ℕ × Fin 3 := (((cj.1 : Thread nD τ), (tokSem cj.2).1), 0, (tokSem cj.2).2)

theorem tokSem_injective : Function.Injective tokSem := by decide

theorem tokOf_injective : Function.Injective (tokOf : Dev nD × Fin 9 → GSem nD τ sig × ℕ × Fin 3) := by
  rintro ⟨c, j⟩ ⟨c', j'⟩ h
  have h1 : c = c' := by have := congrArg (fun x : GSem nD τ sig × ℕ × Fin 3 => x.1.1.1) h; exact this
  have h2 : tokSem j = tokSem j' :=
    Prod.ext (congrArg (fun x : GSem nD τ sig × ℕ × Fin 3 => x.1.2) h) (congrArg (fun x : GSem nD τ sig × ℕ × Fin 3 => x.2.2) h)
  rw [h1, tokSem_injective h2]
def ringToks : Finset (GSem nD τ sig × ℕ × Fin 3) := Finset.univ.map ⟨tokOf, tokOf_injective⟩

/-- The launch element: the staging library's rounds, the devices' rounds. -/
def u₀ : UU :=
  (initOf (Pipeline.cells cfgs cellOf_inj) (Pipeline.launchToks cfgs cellOf_inj), (initOf ringCells ringToks, (1 : Counters)))

theorem ownU_split (a : UR sig nD τ) (b : UD) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The tokens of device `c`'s own cells' duties. -/
def toks (c : Dev nD) : sProp 𝕄 :=
  iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0)

/-- What the launch element deals device `c`. -/
def G (c : Dev nD) : sProp 𝕄 :=
  iprop((bigSep Finset.univ fun k : Fin 7 => roundState ER (rd sent) (kcell (c, k)) 0)
    ∗ (bigSep Finset.univ fun k : Fin 7 => iprop(atPos ER (kcell (c, k)) 0 ∅ 0 ∗ reached ER (kcell (c, k)) 0)) ∗ toks c)

/-- The local copies' semaphores at zero. -/
def locals (c : Dev nD) : sProp 𝕄 :=
  iprop(semVal ((c : Thread nD τ), .dma (2 : DmaSem sig)) 0 ∗ semVal ((c : Thread nD τ), .dma (3 : DmaSem sig)) 0 ∗ semVal ((c : Thread nD τ), .dma (4 : DmaSem sig)) 0 ∗ semVal ((c : Thread nD τ), .dma (5 : DmaSem sig)) 0 ∗ semVal ((c : Thread nD τ), .dma (6 : DmaSem sig)) 0 ∗ semVal ((c : Thread nD τ), .dma (7 : DmaSem sig)) 0 ∗ semVal ((c : Thread nD τ), .dma (8 : DmaSem sig)) 0 ∗ semVal ((c : Thread nD τ), .dma (9 : DmaSem sig)) 0 ∗ semVal ((c : Thread nD τ), .dma (10 : DmaSem sig)) 0)

/-- What each device starts from. -/
def G' (c : Dev nD) : sProp 𝕄 := iprop((∃ K, ghost sent K c) ∗ locals c)

theorem fund_ring : BI.own (ER (initOf ringCells ringToks)) ⊢ (|==> bigSep Finset.univ (G sent) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (rd sent) ringCells ringToks) $$ HX with ⟨Hst, Hr, Hat, Htok⟩
  imodintro
  ihave Hst' := (Entails.of_eq (hX fun g => roundState ER (rd sent) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal ((c : Thread nD τ), .dma (2 : DmaSem sig)) 0 ∗ semVal ((c : Thread nD τ), .dma (3 : DmaSem sig)) 0 ∗ semVal ((c : Thread nD τ), .dma (4 : DmaSem sig)) 0 ∗ semVal ((c : Thread nD τ), .dma (5 : DmaSem sig)) 0 ∗ semVal ((c : Thread nD τ), .dma (6 : DmaSem sig)) 0 ∗ semVal ((c : Thread nD τ), .dma (7 : DmaSem sig)) 0 ∗ semVal ((c : Thread nD τ), .dma (8 : DmaSem sig)) 0 ∗ semVal ((c : Thread nD τ), .dma (9 : DmaSem sig)) 0 ∗ semVal ((c : Thread nD τ), .dma (10 : DmaSem sig)) 0 ∗ semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5, 6, 7, 8, 9, 10, 11, 12, 13, 14] (by decide) (by decide)]; rfl
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_split (c : Dev nD) :
    iprop(Pipeline.ownSems0 (Ix := Unit) (Name := ℕ) (U := UU) (Lvl := ℕ) (Val := Elt F) (τ := τ) osem c ∗ unscopedSems0 c)
      ⊢ (iprop(locals c ∗ bigSep Finset.univ fun k : Fin 7 => semVal (kcell (c, k)) 0) : sProp 𝕄) := by
  rw [ownSems0_eq, unscopedSems0_eq, bigSep_fin7]
  unfold locals
  iintro ⟨⟨H2, H3, H4, H5, H6, H7, H8, H9, H10, S0, S1, S2, R0, R1, R2⟩, HB⟩
  isplitl [H2 H3 H4 H5 H6 H7 H8 H9 H10]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [HB]; · iexact HB
  isplitl [S0]; · iexact S0
  isplitl [S1]; · iexact S1
  isplitl [S2]; · iexact S2
  isplitl [R0]; · iexact R0
  isplitl [R1]; · iexact R1
  iexact R2

theorem core_alloc (c : Dev nD) :
    iprop(Pipeline.ownSems0 (Ix := Unit) (Name := ℕ) (U := UU) (Lvl := ℕ) (Val := Elt F) (τ := τ) osem c ∗ unscopedSems0 c ∗ G sent c)
      ⊢ |={Set.univ}=> iprop((bigSep Finset.univ fun k => iprop(∃ κ : ℕ, cellInv ER (rd sent) κ (kcell (c, k))))
          ∗ (bigSep Finset.univ fun k => iprop(atPos ER (kcell (c, k)) 0 ∅ 0 ∗ reached ER (kcell (c, k)) 0)) ∗ toks c ∗ locals c) := by
  unfold G
  iintro ⟨Hos, Hus, Hst, Hat, Htok⟩
  ihave Hv := (sems0_split (F := F) c) $$ [Hos Hus]
  · isplitl [Hos] <;> iassumption
  icases Hv with ⟨Hl, Hv⟩
  imod (show iprop((bigSep Finset.univ fun k : Fin 7 => semVal (kcell (c, k)) 0) ∗ bigSep Finset.univ fun k : Fin 7 => roundState ER (rd sent) (kcell (c, k)) 0)
      ⊢ (|={Set.univ}=> bigSep Finset.univ fun k => iprop(∃ κ : ℕ, cellInv ER (rd sent) κ (kcell (c, k))) : sProp 𝕄) from by
        rw [← bigSep_sep']
        exact (bigSep_mono fun k _ => (Rounds.body_intro ER (rd sent) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-- What every device may use: every cell's invariant, every cell at round 0. -/
def records (K : Dev nD × Fin 7 → ℕ) : sProp 𝕄 :=
  iprop((bigSep Finset.univ fun ck : Dev nD × Fin 7 => cellInv ER (rd sent) (K ck) (kcell ck))
    ∗ bigSep Finset.univ fun ck : Dev nD × Fin 7 => reached ER (kcell ck) 0)

instance records_persistent (K : Dev nD × Fin 7 → ℕ) : BI.Persistent (records sent K) := by unfold records; infer_instance

theorem inv_at (K : Dev nD × Fin 7 → ℕ) (ck : Dev nD × Fin 7) :
    (bigSep Finset.univ fun ck : Dev nD × Fin 7 => (cellInv ER (rd sent) (K ck) (kcell ck) : sProp 𝕄)) ⊢ cellInv ER (rd sent) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- The tokens of the duties device `c` pays. -/
def payToks (c : Dev nD) : sProp 𝕄 :=
  iprop(dutyTok ER (barCell (fw c 0)) 0 2 ∗ dutyTok ER (barCell (fw c 1)) 0 1 ∗ dutyTok ER (barCell (fw c 2)) 0 0
    ∗ dutyTok ER (recvCell (fw c 0) 0) 0 0 ∗ dutyTok ER (recvCell (fw c 1) 1) 0 0 ∗ dutyTok ER (recvCell (fw c 2) 2) 0 0
    ∗ dutyTok ER (sendCell c 0) 0 0 ∗ dutyTok ER (sendCell c 1) 0 0 ∗ dutyTok ER (sendCell c 2) 0 0)
/-- What is device `c`'s alone. -/
def linear (c : Dev nD) : sProp 𝕄 :=
  iprop((atPos ER (barCell c) 0 ∅ 0
      ∗ atPos ER (sendCell c 0) 0 ∅ 0 ∗ atPos ER (sendCell c 1) 0 ∅ 0 ∗ atPos ER (sendCell c 2) 0 ∅ 0
      ∗ atPos ER (recvCell c 0) 0 ∅ 0 ∗ atPos ER (recvCell c 1) 0 ∅ 0 ∗ atPos ER (recvCell c 2) 0 ∅ 0)
    ∗ payToks c ∗ locals c)

theorem ghost_intro (K : Dev nD × Fin 7 → ℕ) (c : Dev nD) : iprop(records sent K ∗ linear c) ⊢ G' sent c := by
  unfold records linear payToks G' ghost invs
  iintro ⟨⟨#HI, #HR⟩, ⟨AB, AS0, AS1, AS2, AR0, AR1, AR2⟩, ⟨T0, T1, T2, T3, T4, T5, T6, T7, T8⟩, Hl⟩
  isplitr [Hl]
  · iexists K
    isplitr
    · isplitr; · iapply (inv_at sent K (c, 0)); iexact HI
      isplitr; · iapply (inv_at sent K (c, 1)); iexact HI
      isplitr; · iapply (inv_at sent K (c, 2)); iexact HI
      isplitr; · iapply (inv_at sent K (c, 3)); iexact HI
      isplitr; · iapply (inv_at sent K (c, 4)); iexact HI
      isplitr; · iapply (inv_at sent K (c, 5)); iexact HI
      isplitr; · iapply (inv_at sent K (c, 6)); iexact HI
      isplitr; · iapply (inv_at sent K (fw c 0, 0)); iexact HI
      isplitr; · iapply (inv_at sent K (fw c 1, 0)); iexact HI
      isplitr; · iapply (inv_at sent K (fw c 2, 0)); iexact HI
      isplitr; · iapply (inv_at sent K (fw c 0, 4)); iexact HI
      isplitr; · iapply (inv_at sent K (fw c 1, 5)); iexact HI
      iapply (inv_at sent K (fw c 2, 6)); iexact HI
    isplitl [AB]; · iexact AB
    isplitl [AS0]; · iexact AS0
    isplitl [AS1]; · iexact AS1
    isplitl [AS2]; · iexact AS2
    isplitl [AR0]; · iexact AR0
    isplitl [AR1]; · iexact AR1
    isplitl [AR2]; · iexact AR2
    isplitr; · iapply (reached_at (F := F) (fw c 0, 0)); iexact HR
    isplitr; · iapply (reached_at (F := F) (fw c 1, 0)); iexact HR
    isplitr; · iapply (reached_at (F := F) (fw c 2, 0)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    isplitr; · iapply (reached_at (F := F) (c, 6)); iexact HR
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    iexact T8
  · iexact Hl

/-- The tokens dealt: duty `d` of a barrier cell to the device `d + 1` ahead of the cell's, which finds that cell `3 - d`
    ahead of itself; a receive cell's to the device behind. -/
theorem toks_around : (bigSep Finset.univ fun c : Dev nD => (toks c : sProp 𝕄)) ⊢ bigSep Finset.univ fun c : Dev nD => payToks c := by
  unfold toks payToks
  simp only [bigSep_sep']
  rw [bigSep_univ_equiv (ring 2) (fun c : Dev nD => (dutyTok ER (barCell c) 0 0 : sProp 𝕄)),
    bigSep_univ_equiv (ring 1) (fun c : Dev nD => (dutyTok ER (barCell c) 0 1 : sProp 𝕄)),
    bigSep_univ_equiv (ring 0) (fun c : Dev nD => (dutyTok ER (barCell c) 0 2 : sProp 𝕄)),
    bigSep_univ_equiv (ring 0) (fun c : Dev nD => (dutyTok ER (recvCell c 0) 0 0 : sProp 𝕄)),
    bigSep_univ_equiv (ring 1) (fun c : Dev nD => (dutyTok ER (recvCell c 1) 0 0 : sProp 𝕄)),
    bigSep_univ_equiv (ring 2) (fun c : Dev nD => (dutyTok ER (recvCell c 2) 0 0 : sProp 𝕄))]
  iintro ⟨B0, B1, B2, S0, S1, S2, R0, R1, R2⟩
  isplitl [B2]; · iexact B2
  isplitl [B1]; · iexact B1
  isplitl [B0]; · iexact B0
  isplitl [R0]; · iexact R0
  isplitl [R1]; · iexact R1
  isplitl [R2]; · iexact R2
  isplitl [S0]; · iexact S0
  isplitl [S1]; · iexact S1
  iexact S2

theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd sent) κ (kcell (c, k))))
          ∗ (bigSep Finset.univ fun k => iprop(atPos ER (kcell (c, k)) 0 ∅ 0 ∗ reached ER (kcell (c, k)) 0)) ∗ toks c ∗ locals c) : sProp 𝕄)
      ⊢ bigSep Finset.univ (G' sent) := by
  rw [bigSep_sep', bigSep_sep', bigSep_sep', ← bigSep_univ_prod (fun ck : Dev nD × Fin 7 => iprop(∃ κ : ℕ, cellInv ER (rd sent) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hloc⟩
  ihave HK := (BI.bigSep_exists_pi Finset.univ (fun (ck : Dev nD × Fin 7) (κ : ℕ) => (cellInv ER (rd sent) κ (kcell ck) : sProp 𝕄))) $$ HI
  icases HK with ⟨%K, #HI⟩
  ihave Htk := (toks_around (F := F)) $$ Htok
  iapply (bigSep_beside (R := records sent K) fun c _ => ghost_intro sent K c)
  isplitr
  · unfold records; isplitl; · iexact HI
    iexact HR
  · unfold linear
    simp only [bigSep_sep']
    isplitl [Hat]
    · iapply (Entails.of_eq ?_) $$ Hat
      simp only [← bigSep_sep']
      exact bigSep_congr fun c _ => bigSep_fin7 _
    isplitl [Htk] <;> iassumption

/-- The semaphores of every device at once, turned into what each device starts from. -/
theorem glob : (bigSep Finset.univ fun c => iprop(Pipeline.ownSems0 (Ix := Unit) (Name := ℕ) (U := UU) (Lvl := ℕ) (Val := Elt F) (τ := τ) osem c ∗ unscopedSems0 c ∗ G sent c) : sProp 𝕄)
    ⊢ |={Set.univ}=> bigSep Finset.univ (G' sent) :=
  ((bigSep_mono fun c _ => core_alloc sent c).trans (bigSep_fupd _ _)).trans (BI.fupd_mono (regroup sent))

/-! ## The launch credit -/

theorem tally_bar (a c : Dev nD) (n : ℕ) : (tallyAt (barCell a) () n : CellTallies nD τ sig Unit) (barCell c) () = if a = c then n else 0 := by
  rw [tallyAt_apply]
  by_cases h : a = c
  · subst h; rw [if_pos ⟨rfl, rfl⟩, if_pos rfl]
  · rw [if_neg (fun h' => h (Fin.ext (congrArg (fun g : GSem nD τ sig => g.1.1.val) h'.1).symm)), if_neg h]
theorem recvS_inj {j k : Fin 3} (h : (SemLoc.dma (recvS k) : SemLoc sig) = .dma (recvS j)) : k = j := by revert j k; decide

theorem tally_recv (a c : Dev nD) (j k : Fin 3) (n : ℕ) :
    (tallyAt (recvCell a j) () n : CellTallies nD τ sig Unit) (recvCell c k) () = if a = c ∧ j = k then n else 0 := by
  rw [tallyAt_apply]
  by_cases h : a = c ∧ j = k
  · rw [h.1, h.2, if_pos ⟨rfl, rfl⟩, if_pos ⟨rfl, rfl⟩]
  · rw [if_neg (fun h' => h ⟨Fin.ext (congrArg (fun g : GSem nD τ sig => g.1.1.val) h'.1).symm, ?_⟩), if_neg h]
    have h2 : (SemLoc.dma (recvS k) : SemLoc sig) = .dma (recvS j) := congrArg Prod.snd h'.1
    exact (recvS_inj h2).symm
theorem tally_bar_recv (a c : Dev nD) (k : Fin 3) (n : ℕ) : (tallyAt (barCell a) () n : CellTallies nD τ sig Unit) (recvCell c k) () = 0 := by
  rw [tallyAt_apply, if_neg fun h => ?_]
  exact absurd (congrArg Prod.snd h.1) (by intro h'; cases h')
theorem tally_recv_bar (a c : Dev nD) (k : Fin 3) (n : ℕ) : (tallyAt (recvCell a k) () n : CellTallies nD τ sig Unit) (barCell c) () = 0 := by
  rw [tallyAt_apply, if_neg fun h => ?_]
  exact absurd (congrArg Prod.snd h.1) (by intro h'; cases h')

/-- What device `d` owes device `c`'s barrier cell; -/
theorem owed_bar (d c : Dev nD) : owedB0 d (barCell c) () = (if fw d 2 = c then 1 else 0) + (if fw d 1 = c then 1 else 0) + (if fw d 0 = c then 1 else 0) := by
  unfold owedB0 owedB1 owedB2 owed0 owed1 owed2
  simp only [Pi.add_apply, Finsupp.add_apply]
  rw [tally_recv_bar (fw d 2) c 2 N, tally_recv_bar (fw d 1) c 1 N, tally_recv_bar (fw d 0) c 0 N, tally_bar, tally_bar, tally_bar]
  simp only [Pi.zero_apply, Finsupp.zero_apply, Nat.zero_add]
/-- its receive cell `k`. -/
theorem owed_recv (d c : Dev nD) (k : Fin 3) : owedB0 d (recvCell c k) () = if fw d k = c then N else 0 := by
  unfold owedB0 owedB1 owedB2 owed0 owed1 owed2
  simp only [Pi.add_apply, Finsupp.add_apply]
  rw [tally_recv (fw d 2) c 2 k N, tally_recv (fw d 1) c 1 k N, tally_recv (fw d 0) c 0 k N, tally_bar_recv, tally_bar_recv, tally_bar_recv]
  simp only [Pi.zero_apply, Finsupp.zero_apply, Nat.zero_add, Nat.add_zero]
  match k with
  | 0 => rw [if_neg (fun h => absurd h.2 (by decide)), if_neg (fun h => absurd h.2 (by decide)), Nat.zero_add]; exact if_congr ⟨And.left, fun h => ⟨h, rfl⟩⟩ rfl rfl
  | 1 => rw [if_neg (c := _ ∧ (2 : Fin 3) = 1) (fun h => absurd h.2 (by decide)), if_neg (c := _ ∧ (0 : Fin 3) = 1) (fun h => absurd h.2 (by decide)), Nat.zero_add, Nat.add_zero]; exact if_congr ⟨And.left, fun h => ⟨h, rfl⟩⟩ rfl rfl
  | 2 => rw [if_neg (c := _ ∧ (1 : Fin 3) = 2) (fun h => absurd h.2 (by decide)), if_neg (c := _ ∧ (0 : Fin 3) = 2) (fun h => absurd h.2 (by decide)), Nat.add_zero]; exact if_congr ⟨And.left, fun h => ⟨h, rfl⟩⟩ rfl rfl

theorem sum_fw (c : Dev nD) (k : Fin 3) (n : ℕ) : (∑ d : Dev nD, if fw d k = c then n else 0) = n := by
  rw [Finset.sum_eq_single (bk c k) (fun d _ hd => if_neg fun h => hd (by rw [← h, bk_fw])) (fun h => absurd (Finset.mem_univ _) h), if_pos (fw_bk c k)]

theorem launch_bar (c : Dev nD) :
    tallyOn (barCell c) (launchCredit (Pipeline.owing owedB0) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    sum_fw, sum_fw, sum_fw]
theorem launch_recv (c : Dev nD) (k : Fin 3) :
    tallyOn (recvCell c k) (launchCredit (Pipeline.owing owedB0) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, sum_fw]

theorem creds (c : Dev nD) :
    (Pipeline.launchCred owedB0 c : sProp 𝕄) ⊢ iprop(cred (tallyAt (barCell c) () 3)
      ∗ cred (tallyAt (recvCell c 0) () N) ∗ cred (tallyAt (recvCell c 1) () N) ∗ cred (tallyAt (recvCell c 2) () N)) := by
  unfold Pipeline.launchCred
  rw [bigSep_univ_at _ (SemLoc.reg barS), launch_bar]
  refine sep_mono_right ?_
  rw [← launch_recv c 0, ← launch_recv c 1, ← launch_recv c 2]
  refine (Entails.of_eq (BI.bigSep_erase (i := SemLoc.dma (recvS 0)) (by decide))).trans (sep_mono_right ?_)
  refine (Entails.of_eq (BI.bigSep_erase (i := SemLoc.dma (recvS 1)) (by decide))).trans (sep_mono_right ?_)
  exact bigSep_elim (show (SemLoc.dma (recvS 2) : SemLoc sig) ∈ _ from by decide)

end Cert.Wire

end
-- ==== Proof.Run.lean ====
/-
# The run

The whole run of the four devices, over any float values: from what the launch deals each device, the body; the scratch
buffers cut into their slots and joined again around it; and what every final memory holds — the arguments unchanged, the
four row blocks of each device's result as computed, every semaphore at zero.
-/
module

public import proofs.«01_k».proof.Proof.Ring
public import Idealize.ShloMosaic.Lib.Quiescent
public import Idealize.ShloMosaic.Lib.Pipeline.CollectiveSegs

@[expose] public section

set_option maxRecDepth 16384

noncomputable section

namespace Cert.Wire

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What each device holds before the body and after it -/

/-- The scratch, each buffer whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- What the launch routes to device `c`: its ghost state and local semaphores, its credits, the levels, its arrays. -/
def start (c : Dev nD) : sProp 𝕄 :=
  iprop(G' (sentAt m) c ∗ (cred (tallyAt (barCell c) () 3)
      ∗ cred (tallyAt (recvCell c 0) () N) ∗ cred (tallyAt (recvCell c 1) () N) ∗ cred (tallyAt (recvCell c 2) () N)) ∗ levAts L lv
    ∗ (((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v1) ↦{fullShare} m ((c : Thread nD τ).loc main_v1)))

/-- The result's four row blocks, as device `c` computes them. -/
def Blocks (c : Dev nD) (f : Buf (Elt F) ((c : Thread nD τ).loc main_v1)) : Prop :=
  (outRow c 0).view.read (Elt F) f = outAt m c 0 ∧ (outRow c 1).view.read (Elt F) f = outAt m c 1
    ∧ (outRow c 2).view.read (Elt F) f = outAt m c 2 ∧ (outRow c 3).view.read (Elt F) f = outAt m c 3

/-- The arrays at the end. -/
def arrays (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (∃ f : Buf (Elt F) ((c : Thread nD τ).loc main_v1), ⌜Blocks m c f⌝ ∗ ((c : Thread nD τ).loc main_v1) ↦{fullShare} f))

def Φ₀ (c : Dev nD) : sProp 𝕄 := iprop(start m c ∗ scratch c)
def Φ₁ (c : Dev nD) : sProp 𝕄 :=
  iprop((arrays m c ∗ semVal (barCell c) 0)
    ∗ (locals c ∗ semVal (sendCell c 0) 0 ∗ semVal (sendCell c 1) 0 ∗ semVal (sendCell c 2) 0
        ∗ semVal (recvCell c 0) 0 ∗ semVal (recvCell c 1) 0 ∗ semVal (recvCell c 2) 0)
    ∗ scratch c)

def dats (_ : Fin 1) (c : Dev nD) : Pipeline.Dat τ (Elt F) Unit ℕ UU ℕ cfg0 c where
  A w := m ((cfg0.win w).arr.view.loc (c : Thread nD τ))
  after w _ := match w with
    | ⟨0, _⟩ => iblk m c 0 t0_0
    | ⟨1, _⟩ => iblk m c 1 t0_0
  Φ t := match t with
    | ⟨0, _⟩ => Φ₀ m c
    | ⟨_ + 1, _⟩ => Φ₁ m c
  q _ := fullShare
  owed t := match t with
    | ⟨0, _⟩ => owedB0 c
    | ⟨_ + 1, _⟩ => 0

/-! ## The body -/

/-- The body between what the device holds before and after. -/
theorem body_at (c : Dev nD) (W : Waits sig Unit) (Kt : PUnit → sProp 𝕄) :
    iprop((Φ₀ m c ∗ owes (c : Thread nD τ) (owedB0 c) W
        ∗ (((c : Thread nD τ).loc cc0_stg0_0) ↦{fullShare} iblk m c 0 t0_0) ∗ (((c : Thread nD τ).loc cc0_stg1_0) ↦{fullShare} iblk m c 1 t0_0))
      ∗ (iprop(Φ₁ m c ∗ (∃ W, owes (c : Thread nD τ) 0 W)
        ∗ (((c : Thread nD τ).loc cc0_stg0_0) ↦{fullShare} iblk m c 0 t0_0) ∗ (((c : Thread nD τ).loc cc0_stg1_0) ↦{fullShare} iblk m c 1 t0_0)) -∗ Kt ⟨⟩))
      ⊢ wp frame (wpE (defs₀ (F := F)) 𝒱₀ c none) Set.univ
          (cc0_body xM (Memref.isWhole_whole _) wM (Memref.isWhole_whole _) s0M (Memref.isWhole_whole _) s1M (Memref.isWhole_whole _)
            outM (Memref.isWhole_whole _) xvM (Memref.isWhole_whole _) wvM (Memref.isWhole_whole _) yM (Memref.isWhole_whole _)
            rM (Memref.isWhole_whole _) obM (Memref.isWhole_whole _) cc0_scratch5 cc0_scratch6 cc0_scratch7 cc0_scratch8) Kt := by
  unfold Φ₀ start G' locals scratch
  iintro ⟨⟨⟨⟨⟨⟨%K, HG⟩, Hs2, Hs3, Hs4, Hs5, Hs6, Hs7, Hs8, Hs9, Hs10⟩, ⟨HcB, HcR0, HcR1, HcR2⟩, Hlev, Hx, Hw, Ho⟩, ⟨%fxv, Hxv⟩, ⟨%fwv, Hwv⟩, ⟨%fy, Hy⟩, ⟨%fr, Hr⟩, ⟨%fob, Hob⟩⟩, HO, Hsc0, Hsc1⟩, Hk⟩
  ihave Hw' := (Entails.of_eq (cut_w c _)) $$ Hw
  icases Hw' with ⟨Hw0, Hw1, Hw2, Hw3⟩
  ihave Ho' := (Entails.of_eq (cut_o c _)) $$ Ho
  icases Ho' with ⟨Ho0, Ho1, Ho2, Ho3⟩
  ihave Hwv' := (Entails.of_eq (cut_wv c _)) $$ Hwv
  icases Hwv' with ⟨Hv0, Hv1, Hv2, Hv3⟩
  ihave Hy' := (Entails.of_eq (cut_y c _)) $$ Hy
  icases Hy' with ⟨Hy0, Hy1, Hy2⟩
  ihave Hr' := (Entails.of_eq (cut_r c _)) $$ Hr
  icases Hr' with ⟨Hr0, Hr1, Hr2⟩
  ihave Hob' := (Entails.of_eq (cut_ob c _)) $$ Hob
  icases Hob' with ⟨Hb0, Hb1, Hb2, Hb3⟩
  iapply (body_run m K c Kt (m ((c : Thread nD τ).loc main_v1)) fxv fwv fy fr fob W)
  isplitr [Hk]
  · unfold given rPts
    isplitl [Hx]; · iexact Hx
    isplitl [Hw0]; · iexact Hw0
    isplitl [Hw1]; · iexact Hw1
    isplitl [Hw2]; · iexact Hw2
    isplitl [Hw3]; · iexact Hw3
    isplitl [Ho0]; · iexact Ho0
    isplitl [Ho1]; · iexact Ho1
    isplitl [Ho2]; · iexact Ho2
    isplitl [Ho3]; · iexact Ho3
    isplitl [Hsc0]; · iexact Hsc0
    isplitl [Hsc1]; · iexact Hsc1
    isplitl [Hxv]; · iexact Hxv
    isplitl [Hv0]; · iexact Hv0
    isplitl [Hv1]; · iexact Hv1
    isplitl [Hv2]; · iexact Hv2
    isplitl [Hv3]; · iexact Hv3
    isplitl [Hy0]; · iexact Hy0
    isplitl [Hy1]; · iexact Hy1
    isplitl [Hy2]; · iexact Hy2
    isplitl [Hr0]; · iexact Hr0
    isplitl [Hr1]; · iexact Hr1
    isplitl [Hr2]; · iexact Hr2
    isplitl [Hb0]; · iexact Hb0
    isplitl [Hb1]; · iexact Hb1
    isplitl [Hb2]; · iexact Hb2
    isplitl [Hb3]; · iexact Hb3
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [HG]; · iexact HG
    isplitl [HcB]; · iexact HcB
    isplitl [HcR0]; · iexact HcR0
    isplitl [HcR1]; · iexact HcR1
    isplitl [HcR2]; · iexact HcR2
    isplitl [Hlev]; · iexact Hlev
    iexact HO
  · iintro HD
    iapply Hk
    unfold done yPts rPts
    icases HD with ⟨Hx, Hw0, Hw1, Hw2, Hw3, Ho0, Ho1, Ho2, Ho3, Hsc0, Hsc1, Hxv, Hv0, Hv1, Hv2, Hv3, Hy0, Hy1, Hy2, Hr0, Hr1, Hr2, Hb0, Hb1, Hb2, Hb3, Hs2, Hs3, Hs4, Hs5, Hs6, Hs7, Hs8, Hs9, Hs10, SS0, SS1, SS2, SR0, SR1, SR2, SB, HO⟩
    isplitr [HO Hsc0 Hsc1]
    · unfold Φ₁ arrays scratch locals
      isplitl [Hx Hw0 Hw1 Hw2 Hw3 Ho0 Ho1 Ho2 Ho3 SB]
      · isplitr [SB]
        · isplitl [Hx]; · iexact Hx
          isplitl [Hw0 Hw1 Hw2 Hw3]
          · iapply (Entails.of_eq (cut_w c _).symm)
            isplitl [Hw0]; · iexact Hw0
            isplitl [Hw1]; · iexact Hw1
            isplitl [Hw2]; · iexact Hw2
            iexact Hw3
          iapply (join_o c (outAt m c) (m ((c : Thread nD τ).loc main_v1)))
          isplitl [Ho0]; · iexact Ho0
          isplitl [Ho1]; · iexact Ho1
          isplitl [Ho2]; · iexact Ho2
          iexact Ho3
        · iexact SB
      isplitl [Hs2 Hs3 Hs4 Hs5 Hs6 Hs7 Hs8 Hs9 Hs10 SS0 SS1 SS2 SR0 SR1 SR2]
      · isplitl [Hs2 Hs3 Hs4 Hs5 Hs6 Hs7 Hs8 Hs9 Hs10]
        · isplitl [Hs2]; · iexact Hs2
          isplitl [Hs3]; · iexact Hs3
          isplitl [Hs4]; · iexact Hs4
          isplitl [Hs5]; · iexact Hs5
          isplitl [Hs6]; · iexact Hs6
          isplitl [Hs7]; · iexact Hs7
          isplitl [Hs8]; · iexact Hs8
          isplitl [Hs9]; · iexact Hs9
          iexact Hs10
        isplitl [SS0]; · iexact SS0
        isplitl [SS1]; · iexact SS1
        isplitl [SS2]; · iexact SS2
        isplitl [SR0]; · iexact SR0
        isplitl [SR1]; · iexact SR1
        iexact SR2
      isplitl [Hxv]; · iexact Hxv
      isplitl [Hv0 Hv1 Hv2 Hv3]
      · iapply (join_wv c fwv)
        isplitl [Hv0]; · iexact Hv0
        isplitl [Hv1]; · iexact Hv1
        isplitl [Hv2]; · iexact Hv2
        iexact Hv3
      isplitl [Hy0 Hy1 Hy2]
      · iapply (join_y c fy)
        isplitl [Hy0]; · iexact Hy0
        isplitl [Hy1]; · iexact Hy1
        iexact Hy2
      isplitl [Hr0 Hr1 Hr2]
      · iapply (join_r c fr)
        isplitl [Hr0]; · iexact Hr0
        isplitl [Hr1]; · iexact Hr1
        iexact Hr2
      iapply (join_ob c fob)
      isplitl [Hb0]; · iexact Hb0
      isplitl [Hb1]; · iexact Hb1
      isplitl [Hb2]; · iexact Hb2
      iexact Hb3
    isplitl [HO]; · iexact HO
    isplitl [Hsc0]; · iexact Hsc0
    iexact Hsc1

/-- A staging buffer held whole at `X`, as the library writes it. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch_0 (t : Fin cfg0.N) : (cfg0.win (0 : Fin 2)).fetch t = true := by rw [fin_N0 t]; rfl
theorem fetch_1 (t : Fin cfg0.N) : (cfg0.win (1 : Fin 2)).fetch t = true := by rw [fin_N0 t]; rfl
theorem before_0 (c : Dev nD) (d) : (dats m 0 c).before (0 : Fin 2) t0_0 d = iblk m c 0 t0_0 := by
  unfold Pipeline.Dat.before; rw [if_pos (fetch_0 t0_0)]; rfl
theorem before_1 (c : Dev nD) (d) : (dats m 0 c).before (1 : Fin 2) t0_0 d = iblk m c 1 t0_0 := by
  unfold Pipeline.Dat.before; rw [if_pos (fetch_1 t0_0)]; rfl

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(Φ₁ m c ∗ (dats m 0 c).owesAt () t0_0.succ ∗ stg c cc0_stg0_0 (iblk m c 0 t0_0) ∗ stg c cc0_stg1_0 (iblk m c 1 t0_0))

theorem body_obligation (c : Dev nD) : Pipeline.BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ
    (cc0_body xM (Memref.isWhole_whole _) wM (Memref.isWhole_whole _) s0M (Memref.isWhole_whole _) s1M (Memref.isWhole_whole _)
            outM (Memref.isWhole_whole _) xvM (Memref.isWhole_whole _) wvM (Memref.isWhole_whole _) yM (Memref.isWhole_whole _)
            rM (Memref.isWhole_whole _) obM (Memref.isWhole_whole _) cc0_scratch5 cc0_scratch6 cc0_scratch7 cc0_scratch8) (fun _ => bodyPost m c)
  unfold bodyPre bodyPost Pipeline.Dat.owesAt Pipeline.owesWithin
  simp only [before_0, before_1]
  iintro ⟨HΦ, ⟨%W, %hW, HO⟩, ⟨%d0, %f0, %e0, H0⟩, ⟨%d1, %f1, %e1, H1⟩⟩
  subst e0 e1
  iapply (body_at m c W fun _ => _)
  isplitl [HΦ HO H0 H1]
  · isplitl [HΦ]; · iexact HΦ
    isplitl [HO]; · iexact HO
    isplitl [H0]; · iexact H0
    iexact H1
  iintro ⟨HΦ, ⟨%W', HO⟩, H0, H1⟩
  isplitl [HΦ]; · iexact HΦ
  isplitl [HO]
  · iexists W'; isplitr; · (ipureintro; exact fun _ _ => Or.inl trivial)
    iexact HO
  isplitl [H0]
  · iexists _; isplitr; · (ipureintro; rfl)
    iexact H0
  iexists _; isplitr; · (ipureintro; rfl)
  iexact H1

/-! ## The launch's side conditions -/

theorem share_eq (c : Dev nD) (w : Fin cfg0.W) : (dats m 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred owedB0 c ∗ prngReg c (ρ c) ∗ G' (sentAt m) c)
      ⊢ |={Set.univ}=> iprop(start m c ∗ emp) := by
  rw [Pipeline.unscopedRestP_none, show cfg0.spec = spec0 from rfl, unscopedRest0_eq]
  iintro ⟨⟨Hx, Hw, Ho⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [Hx]; · iexact Hx
    isplitl [Hw]; · iexact Hw
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show cfg0.spec = spec0 from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop((arrays m c ∗ unscopedSems0 c) ∗ Pipeline.ownSems0 osem c ∗ Pipeline.scopedRest cfg0.spec c) := by
  rw [show (dats m 0 c).Φ (Fin.last cfg0.N) = Φ₁ m c from rfl, show cfg0.spec = spec0 from rfl, scopedRest0_eq, ownSems0_eq, unscopedSems0_eq]
  unfold Φ₁ scratch locals
  iintro ⟨HA, ⟨⟨Hs2, Hs3, Hs4, Hs5, Hs6, Hs7, Hs8, Hs9, Hs10⟩, HS⟩, HR⟩
  isplitl [HA]; · iexact HA
  isplitr [HR]
  · isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexact HS
  iexact HR

theorem waits (c : Dev nD) : (levAts L lv : sProp 𝕄) ⊢ Pipeline.cellsWaits cfgs (dats m) () 0 c :=
  Pipeline.cellsWaits_intro cfgs (dats m) () 0 c fun w s t =>
    mayWait c _ (n := 0) (by fin_cases w <;> fin_cases s <;> decide) (by
      rcases t with ⟨_ | _, ht⟩
      · exact above_owedB0 c
      · exact above_zero 0)

/-! ## The run -/

/-- What a final memory holds. -/
def Final (s : MemSt nD τ sig (Elt F)) : Prop :=
  (∀ c : Dev nD, (∀ w : Fin 2, s.mem ((cfg0.win w).arr.view.loc (c : Thread nD τ)) = m ((cfg0.win w).arr.view.loc (c : Thread nD τ)))
    ∧ s.mem ((c : Thread nD τ).loc main_arg0) = m ((c : Thread nD τ).loc main_arg0)
    ∧ s.mem ((c : Thread nD τ).loc main_arg1) = m ((c : Thread nD τ).loc main_arg1)
    ∧ Blocks m c (s.mem ((c : Thread nD τ).loc main_v1)))
  ∧ s.sem = fun _ => 0

/-- On the four devices, for any float values, from any memory with zero counters: every weakly fair execution terminates,
    in a memory as above. -/
theorem run_main : θ_run (defs (F := F)) (onTc (τ := τ) (main (F := F))) ⟨m, fun _ => 0, ρ⟩ (fun r => Final m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := owedB0) (howed₀ := fun _ => rfl) (howedN := fun _ => rfl)
    (L := L) (lv := lv) (hL := L_of_ne) (hwaits := waits m)
    (G := G (sentAt m)) (G' := G' (sentAt m)) (u₀ := u₀)
    (hu₀ := by
      unfold u₀
      iintro Hu
      ihave H := (ownU_split _ _) $$ Hu
      icases H with ⟨HP, HX⟩
      imod (fund_ring (sentAt m)) $$ HX with HG
      imodintro
      isplitl [HP] <;> iassumption)
    (hglob := glob (sentAt m))
    (hA := fun _ _ => rfl) (hpf := fun _ k => k.elim0)
    (X := start m) (Y := fun c => iprop(arrays m c ∗ unscopedSems0 c)) (Z := fun _ => iprop(emp))
    (hX := start_intro m ρ) (hin := phi0_intro m) (hout := phi1_exit m)
    (QY := fun c s => (s.mem ((c : Thread nD τ).loc main_arg0) = m ((c : Thread nD τ).loc main_arg0)
        ∧ s.mem ((c : Thread nD τ).loc main_arg1) = m ((c : Thread nD τ).loc main_arg1)
        ∧ Blocks m c (s.mem ((c : Thread nD τ).loc main_v1)))
      ∧ ∀ sm : SemLoc sig, sm.isScoped .tc = false → s.sem ((c.tc : Thread nD τ), sm) = 0)
    (hY := fun c s' => by
      unfold arrays
      iintro ⟨⟨⟨Hx, Hw, ⟨%f, %hf, Ho⟩⟩, Hu⟩, -, HSI⟩
      icombine HSI Hx gives %hx
      icombine HSI Hw gives %hw
      icombine HSI Ho gives %ho
      have ex := Buf.eq_of_forall_mem_univ hx
      have ew := Buf.eq_of_forall_mem_univ hw
      have eo := Buf.eq_of_forall_mem_univ ho
      imod (Pipeline.unscopedSems0_read (X := unscopedSems0 c) (c := c) fupd_intro s') $$ [Hu HSI] with ⟨%hs, HSI⟩
      · isplitl [Hu] <;> iassumption
      imodintro
      isplitr
      · ipureintro; exact ⟨⟨ex, ew, eo ▸ hf⟩, hs⟩
      iexact HSI)
    (hQ := fun s h hs => ⟨fun c => ⟨fun w => ((h c).1 w).trans ((dats m 0 c).arrAt_in w (by fin_cases w <;> rfl) _), (h c).2.2.1⟩,
      sem_eq_zero hs fun c => (h c).2.2.2⟩)

end Cert.Wire

end
-- ==== Proof.Frames.lean ====
/-
# The frames

The kernel's frames are the run with the values dropped, once over bits and once over reals: the two programs have the same
text. The two references are host programs of one run each.
-/
module

public import proofs.«01_k».proof.Proof.Run
public import proofs.«01_k».proof.Defs
public import proofs.«01_k».proof.Proof.Gen.Kernel
public import proofs.«01_k».proof.Proof.Gen.ReferenceIdeal.Run
public import proofs.«01_k».proof.Proof.Gen.WireIdeal.Run

@[expose] public section

set_option maxRecDepth 16384

noncomputable section

namespace Cert.Wire

open Idealize.ShloMosaic
open Idealize.ShloMosaic.TcCoe
open Idealize.SL.Sem

variable {F : FTy → Type} [FloatOps F]

/-- The run, with the values dropped. -/
theorem frame_run (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
        ∧ r.2.mem ((c : Thread Cert.KernelIdeal.nD Cert.KernelIdeal.τ).loc Cert.KernelIdeal.main_arg3) = m ((c : Thread Cert.KernelIdeal.nD Cert.KernelIdeal.τ).loc Cert.KernelIdeal.main_arg3))
        ∧ r.2.sem = fun _ => 0) :=
  (θ_run Cert.KernelIdeal.defs _ _).mono (fun _ h => ⟨fun c => ⟨(h.1 c).2.1, (h.1 c).2.2.1, (h.1 c).1 0, (h.1 c).1 1⟩, h.2⟩) (run_main m ρ)

theorem frame_kernelIdeal : Cert.quiescent_KernelIdeal := fun m ρ _ => frame_run (F := Ideal) m ρ

/-- The two programs' body tables are one. -/
theorem defs₀_eq : Cert.KernelIdeal.defs₀ (F := Bits) = Cert.Kernel.defs₀ (F := Bits) := by
  unfold Cert.KernelIdeal.defs₀ Cert.Kernel.defs₀
  refine congrArg Defs.onTc ?_
  funext l a
  match l, a with
  | 0, (t, s) => rfl

theorem defs_eq : Cert.KernelIdeal.defs (F := Bits) = Cert.Kernel.defs (F := Bits) :=
  congrArg (Pipeline.defs (Cert.KernelIdeal.pcfgs (F := Bits))) defs₀_eq

theorem frame_kernel : Cert.quiescent_Kernel := fun m ρ _ => by
  have h := frame_run (F := Bits) m ρ
  rw [defs_eq] at h
  exact h

theorem frame_wireIdeal : Cert.quiescent_WireIdeal := fun m ρ _ =>
  (θ_run Cert.WireIdeal.defs _ _).mono (fun r h => ⟨fun c => (h c).2, sem_eq_zero_of_no_sems (by decide) r.2⟩) (Cert.WireIdeal.Value.run (F := Ideal) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Wire

end
-- ==== Proof.Sums.lean ====
module

public import Idealize.ShloMosaic.Lib.StackMember
public import Idealize.ShloMosaic.Lib.IntMxu
public import Idealize.ShloMosaic.Lib.IdealHost

@[expose] public section

/-! The integer sums both programs compute, and the four-word arithmetic of one code. -/

noncomputable section

namespace Cert.Wire

open Idealize.ShloMosaic Idealize.ShloMosaic.ValueIdx Idealize.ShloMosaic.StackMember

variable {M N : Nat}

/-- Entry `(r, c)` of the integer product of `X` and `W`; -/
def tot (X : IVec ⟨2, ![M, 4096]⟩ 8) (W : IVec ⟨2, ![4096, N]⟩ 8) (r : Fin M) (c : Fin N) : ℤ :=
  ∑ k : Fin 4096, (X (ix2 r k)).toInt * (W (ix2 k c)).toInt
/-- the sum of the magnitudes of its products. -/
def mag (X : IVec ⟨2, ![M, 4096]⟩ 8) (W : IVec ⟨2, ![4096, N]⟩ 8) (r : Fin M) (c : Fin N) : ℕ :=
  ∑ k : Fin 4096, (X (ix2 r k)).toInt.natAbs * (W (ix2 k c)).toInt.natAbs

theorem natAbs_tot_le (X : IVec ⟨2, ![M, 4096]⟩ 8) (W : IVec ⟨2, ![4096, N]⟩ 8) (r : Fin M) (c : Fin N) :
    (tot X W r c).natAbs ≤ mag X W r c := by
  refine (Int.natAbs_sum_le _ _).trans (le_of_eq ?_)
  exact Finset.sum_congr rfl fun k _ => Int.natAbs_mul _ _

theorem coe_sum_real (f : Fin 4096 → ℝ) : ((∑ k, f k : ℝ) : EReal) = ∑ k, ((f k : ℝ) : EReal) := by
  classical
  induction (Finset.univ : Finset (Fin 4096)) using Finset.induction_on with
  | empty => simp
  | insert a s ha ih => rw [Finset.sum_insert ha, Finset.sum_insert ha, EReal.coe_add, ih]

theorem extsi_toInt (b : BitVec 8) : (b.signExtend 32).toInt = b.toInt :=
  BitVec.toInt_signExtend_of_le (by omega)

/-- The host's product of the two arrays' numbers, read at an index. -/
theorem host_dot (prec : Option ContractPrecision) (X : IVec ⟨2, ![M, 4096]⟩ 8) (W : IVec ⟨2, ![4096, N]⟩ 8) (h : 8 < 32) (r : Fin M) (c : Fin N) :
    Host.dotGeneral (F := Ideal) (DotDims.plain M 4096 N) prec (sitofp .f32 (extsi 32 X h)) (sitofp .f32 (extsi 32 W h)) (ix2 r c)
      = (((tot X W r c : ℤ) : ℝ) : EReal) := by
  rw [dotGeneral_plain_apply]
  have h1 : ∀ k : Fin 4096, (sitofp (F := Ideal) .f32 (extsi 32 X h)) (ix2 r k) * (sitofp (F := Ideal) .f32 (extsi 32 W h)) (ix2 k c)
      = ((((X (ix2 r k)).toInt * (W (ix2 k c)).toInt : ℤ) : ℝ) : EReal) := by
    intro k
    show ((((X (ix2 r k)).signExtend 32).toInt : ℝ) : EReal) * ((((W (ix2 k c)).signExtend 32).toInt : ℝ) : EReal) = _
    rw [extsi_toInt, extsi_toInt, ← EReal.coe_mul, Int.cast_mul]
  rw [Finset.sum_congr rfl fun k _ => h1 k, ← coe_sum_real, tot, Int.cast_sum]

theorem abs_coe_int (z : ℤ) : (max ((z : ℝ) : EReal) (-((z : ℝ) : EReal))) = (((z.natAbs : ℕ) : ℝ) : EReal) := by
  rw [← EReal.coe_neg, ← EReal.coe_strictMono.monotone.map_max]
  congr 1
  rw [Nat.cast_natAbs, Int.cast_abs]; rfl

/-- The host's product of the two arrays' magnitudes. -/
theorem host_absDot (prec : Option ContractPrecision) (X : IVec ⟨2, ![M, 4096]⟩ 8) (W : IVec ⟨2, ![4096, N]⟩ 8) (h : 8 < 32) (r : Fin M) (c : Fin N) :
    Host.dotGeneral (F := Ideal) (DotDims.plain M 4096 N) prec (Host.absf (sitofp .f32 (extsi 32 X h))) (Host.absf (sitofp .f32 (extsi 32 W h))) (ix2 r c)
      = (((mag X W r c : ℕ) : ℝ) : EReal) := by
  rw [dotGeneral_plain_apply]
  have h1 : ∀ k : Fin 4096, (Host.absf (sitofp (F := Ideal) .f32 (extsi 32 X h))) (ix2 r k) * (Host.absf (sitofp (F := Ideal) .f32 (extsi 32 W h))) (ix2 k c)
      = ((((X (ix2 r k)).toInt.natAbs * (W (ix2 k c)).toInt.natAbs : ℕ) : ℝ) : EReal) := by
    intro k
    show (max ((((X (ix2 r k)).signExtend 32).toInt : ℝ) : EReal) (-((((X (ix2 r k)).signExtend 32).toInt : ℝ) : EReal)))
      * (max ((((W (ix2 k c)).signExtend 32).toInt : ℝ) : EReal) (-((((W (ix2 k c)).signExtend 32).toInt : ℝ) : EReal))) = _
    rw [extsi_toInt, extsi_toInt, abs_coe_int, abs_coe_int, ← EReal.coe_mul, Nat.cast_mul]
  rw [Finset.sum_congr rfl fun k _ => h1 k, ← coe_sum_real, mag, Nat.cast_sum]

theorem plain_lhsIdx (r : Fin M) (c : Fin N) (k : Fin 4096) :
    (DotDims.plain M 4096 N).lhsIdx (ix2 r c) ((contrEquiv1 _ 4096 rfl rfl).symm k) = ix2 r k := by
  have hk := contrEquiv1_symm_val (DotDims.plain M 4096 N) 4096 rfl rfl k
  funext ax; apply Fin.ext
  match ax with
  | ⟨0, _⟩ => simp [DotDims.lhsIdx, DotDims.plain]; rfl
  | ⟨1, _⟩ => simp [DotDims.lhsIdx, DotDims.plain]; exact hk

theorem plain_rhsIdx (r : Fin M) (c : Fin N) (k : Fin 4096) :
    (DotDims.plain M 4096 N).rhsIdx (ix2 r c) ((contrEquiv1 _ 4096 rfl rfl).symm k) = ix2 k c := by
  have hk := contrEquiv1_symm_val (DotDims.plain M 4096 N) 4096 rfl rfl k
  funext ax; apply Fin.ext
  match ax with
  | ⟨0, _⟩ => simp [DotDims.rhsIdx, DotDims.plain]; exact hk
  | ⟨1, _⟩ => simp [DotDims.rhsIdx, DotDims.plain]; rfl

/-- The kernel's int8 product, where the magnitudes of an entry's products stay below 2^24. -/
theorem kernel_dot (X : IVec ⟨2, ![M, 4096]⟩ 8) (W : IVec ⟨2, ![4096, N]⟩ 8) (acc : IVec ⟨2, ![M, N]⟩ 32) (r : Fin M) (c : Fin N)
    (h0 : acc (ix2 r c) = 0) (hS : mag X W r c < 2 ^ 24) :
    (matmulI8 IntMxuNumerics.v7x (DotDims.plain M 4096 N) X W acc (ix2 r c)).toInt = tot X W r c := by
  have hd : dotI8 (DotDims.plain M 4096 N) X W (ix2 r c) = tot X W r c := by
    unfold dotI8 tot
    rw [← Equiv.sum_comp (contrEquiv1 (DotDims.plain M 4096 N) 4096 rfl rfl).symm]
    exact Finset.sum_congr rfl fun k _ => by rw [plain_lhsIdx, plain_rhsIdx]
  have ha : absDotI8 (DotDims.plain M 4096 N) X W (ix2 r c) = mag X W r c := by
    unfold absDotI8 mag
    rw [← Equiv.sum_comp (contrEquiv1 (DotDims.plain M 4096 N) 4096 rfl rfl).symm]
    exact Finset.sum_congr rfl fun k _ => by rw [plain_lhsIdx, plain_rhsIdx, Int.natAbs_mul]
  rw [← hd]
  refine matmulI8_toInt _ _ _ _ _ _ h0 ?_ (by decide)
  rw [ha]
  show mag X W r c ≤ 2 ^ 24 - 1
  omega

/-! ## One code -/

theorem toInt_sshr (v : BitVec 32) (n : ℕ) : (v.sshiftRight n).toInt = v.toInt / 2 ^ n := by
  rw [BitVec.toInt_sshiftRight, Int.shiftRight_eq_div_pow]; norm_cast

/-- The code of a sum below 2^24 in magnitude: half rounds up, and nothing wraps. -/
theorem code_toInt (v : BitVec 32) (h : v.toInt.natAbs < 2 ^ 24) :
    ((IntOp.shrsi .vector (IntOp.addi (IntOp.shrsi .vector v 10#32) 1#32) 1#32).setWidth 16).toInt = (v.toInt + 1024) / 2048 := by
  have e10 : IntOp.shrsi .vector v 10#32 = v.sshiftRight 10 := rfl
  have e1 : ∀ u : BitVec 32, IntOp.shrsi .vector u 1#32 = u.sshiftRight 1 := fun _ => rfl
  rw [e1, e10]
  have a1 : (v.sshiftRight 10).toInt = v.toInt / 1024 := by rw [toInt_sshr]; norm_num
  have a2 : (IntOp.addi (v.sshiftRight 10) 1#32).toInt = v.toInt / 1024 + 1 := by
    show (v.sshiftRight 10 + 1#32).toInt = _
    rw [BitVec.toInt_add, a1]
    have : (1#32 : BitVec 32).toInt = 1 := by decide
    rw [this, Int.bmod_eq_of_le] <;> omega
  have a3 : ((IntOp.addi (v.sshiftRight 10) 1#32).sshiftRight 1).toInt = (v.toInt + 1024) / 2048 := by
    rw [toInt_sshr, a2]; omega
  generalize (IntOp.addi (v.sshiftRight 10) 1#32).sshiftRight 1 = u at a3 ⊢
  rw [BitVec.toInt_setWidth, ← a3]
  have hu := BitVec.toInt_eq_toNat_cond u
  have hlt := u.isLt
  rw [Int.bmod_def]
  split at hu <;> split <;> omega

/-! ## The constants and the code, in the reals -/

theorem ofBits_2048 : Ideal.ofBits .f32 0x45000000#32 = ((2048 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_limit : Ideal.ofBits .f32 0x4B800000#32 = ((16777216 : ℝ) : EReal) := by
  simp [Ideal.ofBits, Ideal.ieee, -EReal.coe_mul]; norm_num

theorem div_2048 (x : ℝ) : Ideal.div (x : EReal) ((2048 : ℝ) : EReal) = ((x / 2048 : ℝ) : EReal) := by
  unfold Ideal.div
  rw [if_neg (by exact_mod_cast (by norm_num : (2048 : ℝ) ≠ 0)), ← EReal.coe_inv, ← EReal.coe_mul, div_eq_mul_inv]

/-- `⌊z / 2048 + 1/2⌋` is the integer quotient the shifts compute. -/
theorem floor_code (z : ℤ) : ⌊(z : ℝ) / 2048 + 1 / 2⌋ = (z + 1024) / 2048 := by
  rw [show (z : ℝ) / 2048 + 1 / 2 = ((z + 1024 : ℤ) : ℝ) / ((2048 : ℕ) : ℝ) by push_cast; ring, Int.floor_div_natCast, Int.floor_intCast]
  norm_num
theorem floor_step (z : ℤ) : ⌊(z : ℝ) / 2048⌋ = z / 2048 := by
  rw [show (z : ℝ) / 2048 = ((z : ℤ) : ℝ) / ((2048 : ℕ) : ℝ) by push_cast; ring, Int.floor_div_natCast, Int.floor_intCast]
  norm_num

end Cert.Wire

end
-- ==== Proof.Value.lean ====
module

public import proofs.«01_k».proof.Proof.Sums
public import proofs.«01_k».proof.Proof.Blocks
public import proofs.«01_k».proof.Proof.Run
public import Idealize.ShloMosaic.Lib.Layout

@[expose] public section

/-! What each device's result holds, at the ideal values, over the whole arrays. -/

set_option maxRecDepth 16384

noncomputable section

namespace Cert.Wire

open Cert.KernelIdeal Cert.KernelIdeal.Gen

open Idealize.ShloMosaic Idealize.ShloMosaic.ValueIdx
open Idealize.ShloMosaic.TcCoe

/-! ## Blocks read by coordinates -/

/-- The place of row `r` of device `c`'s rows in all of them; -/
def gRow (c : Fin 4) (r : Fin 1024) : Fin 4096 := ⟨1024 * c.val + r.val, by omega⟩
/-- of column `n` of its columns. -/
def gCol (c : Fin 4) (n : Fin 512) : Fin 2048 := ⟨512 * c.val + n.val, by omega⟩
/-- The column block a device reads `j`-th; -/
def wBlk (c : Dev nD) (j : Fin 4) : Fin 4 := ⟨(c.val + (j.val + 1)) % 4, Nat.mod_lt _ (by decide)⟩
/-- the row block of the result it writes `j`-th. -/
def oBlk (c : Dev nD) (j : Fin 4) : Fin 4 := ⟨(c.val + (3 - j.val)) % 4, Nat.mod_lt _ (by decide)⟩

section Reads
variable {F : FTy → Type} [FloatOps F]

theorem wCol_emb (c : Dev nD) {off : Fin 2 → ℕ} (inb : ∀ a, off a + S4096x512.size a ≤ S4096x2048.size a) {q : Fin 4}
    (h : off = ![0, 512 * q.val]) (k : Fin 4096) (n : Fin 512) :
    (Rect.unit (s := S4096x2048) off S4096x512.size inb).emb (ix2 k n) = ix2 k (gCol q n) := by
  subst h
  funext a; apply Fin.ext
  match a with
  | ⟨0, _⟩ => show 0 + 1 * k.val = k.val; omega
  | ⟨1, _⟩ => show 512 * q.val + 1 * n.val = 512 * q.val + n.val; omega

theorem outRow_emb (c : Dev nD) {off : Fin 2 → ℕ} (inb : ∀ a, off a + S1024x512.size a ≤ S4096x512.size a) {q : Fin 4}
    (h : off = ![1024 * q.val, 0]) (r : Fin 1024) (n : Fin 512) :
    (Rect.unit (s := S4096x512) off S1024x512.size inb).emb (ix2 r n) = ix2 (gRow q r) n := by
  subst h
  funext a; apply Fin.ext
  match a with
  | ⟨0, _⟩ => show 1024 * q.val + 1 * r.val = 1024 * q.val + r.val; omega
  | ⟨1, _⟩ => show 0 + 1 * n.val = n.val; omega

variable (m : (ℓ : Loc nD τ sig) → Buf (Elt F) ℓ)

/-- The `j`-th column block of device `c`'s `w`, as a matrix. -/
def wMat (c : Dev nD) (j : Fin 4) : IVec ⟨2, ![4096, 512]⟩ 8 := fun i =>
  (m ((c : Thread nD τ).loc main_arg1) : S4096x2048.Idx → BitVec 8) (ix2 (i 0) (gCol (wBlk c j) (i 1)))

theorem wCol_mat {c : Dev nD} {off : Fin 2 → ℕ} (inb : ∀ a, off a + S4096x512.size a ≤ S4096x2048.size a) {j : Fin 4}
    (h : off = ![0, 512 * (wBlk c j).val]) :
    (wM.slice (Rect.unit (s := S4096x2048) off S4096x512.size inb) (fun _ => rfl)).view.read (Elt F) (m ((c : Thread nD τ).loc main_arg1))
      = wMat m c j := by
  funext i
  have hi : i = ix2 (i 0) (i 1) := by funext a; match a with | ⟨0, _⟩ => rfl | ⟨1, _⟩ => rfl
  exact (congrArg (fun i => (m ((c : Thread nD τ).loc main_arg1) : S4096x2048.Idx → BitVec 8) ((Rect.unit (s := S4096x2048) off S4096x512.size inb).emb i)) hi).trans
    (congrArg (m ((c : Thread nD τ).loc main_arg1) : S4096x2048.Idx → BitVec 8) (wCol_emb c inb h (i 0) (i 1)))

theorem wAt_cast (c : Dev nD) (j : Fin 4) : shapeCast S4096x512 (wAt m c j) shapeCasts_S1x4096x512_S4096x512 = wMat m c j := by
  match j with
  | 0 => exact (shapeCast_shapeCast _ _ _).trans (wCol_mat m (k0_off1_inb c 0) (off_w0 c))
  | 1 => exact (shapeCast_shapeCast _ _ _).trans (wCol_mat m (k0_off1_inb c 1) (off_w1 c))
  | 2 => exact (shapeCast_shapeCast _ _ _).trans (wCol_mat m (k0_off1_inb c 2) (off_w2 c))
  | 3 => exact (shapeCast_shapeCast _ _ _).trans (wCol_mat m (k0_off1_inb c 3) (off_w3 c))

/-- A result made of the four blocks, read at a row of one of them. -/
theorem Blocks.read {m : (ℓ : Loc nD τ sig) → Buf (Elt F) ℓ} {c : Dev nD} {f : Buf (Elt F) ((c : Thread nD τ).loc main_v1)} (h : Blocks m c f)
    (j : Fin 4) (r : Fin 1024) (n : Fin 512) : (f : S4096x512.Idx → F .f32) (ix2 (gRow (oBlk c j) r) n) = outAt m c j (ix2 r n) := by
  match j with
  | 0 => exact (congrArg (f : S4096x512.Idx → F .f32) (outRow_emb c (k0_off3_inb c 0) (q := oBlk c 0) (off_o0 c) r n)).symm.trans (congrFun h.1 (ix2 r n))
  | 1 => exact (congrArg (f : S4096x512.Idx → F .f32) (outRow_emb c (k0_off3_inb c 1) (q := oBlk c 1) (off_o1 c) r n)).symm.trans (congrFun h.2.1 (ix2 r n))
  | 2 => exact (congrArg (f : S4096x512.Idx → F .f32) (outRow_emb c (k0_off3_inb c 2) (q := oBlk c 2) (off_o2 c) r n)).symm.trans (congrFun h.2.2.1 (ix2 r n))
  | 3 => exact (congrArg (f : S4096x512.Idx → F .f32) (outRow_emb c (k0_off2_inb c) (q := oBlk c 3) (off_o3 c) r n)).symm.trans (congrFun h.2.2.2 (ix2 r n))

/-- The int8 product of a device's rows with a column block; -/
def prod (X : IVec ⟨2, ![1024, 4096]⟩ 8) (W : IVec ⟨2, ![4096, 512]⟩ 8) : IVec ⟨2, ![1024, 512]⟩ 32 :=
  matmulI8 IntMxuNumerics.v7x (DotDims.plain 1024 4096 512) X W (constantI ⟨2, ![1024, 512]⟩ 32 0#32)
/-- the codes of it. -/
def codes (v : IVec ⟨2, ![1024, 512]⟩ 32) : IVec ⟨2, ![1024, 512]⟩ 16 := fun i =>
  (IntOp.shrsi .vector (IntOp.addi (IntOp.shrsi .vector (v i) 10#32) 1#32) 1#32).setWidth 16

theorem pay2_eq (x : S1024x4096.Idx → Elt F .i8) (w : S1x4096x512.Idx → Elt F .i8) :
    shapeCast S1024x512 (k0_pay2 (F := F) x w) shapeCasts_S1x1024x512_S1024x512
      = codes (prod x (shapeCast S4096x512 w shapeCasts_S1x4096x512_S4096x512)) := shapeCast_shapeCast _ _ _
theorem pay3_eq (x : S1024x4096.Idx → Elt F .i8) (w : S1x4096x512.Idx → Elt F .i8) :
    shapeCast S1024x512 (k0_pay3 (F := F) x w) shapeCasts_S1x1024x512_S1024x512
      = codes (prod x (shapeCast S4096x512 w shapeCasts_S1x4096x512_S4096x512)) := shapeCast_shapeCast _ _ _
theorem pay4_eq (x : S1024x4096.Idx → Elt F .i8) (w : S1x4096x512.Idx → Elt F .i8) :
    shapeCast S1024x512 (k0_pay4 (F := F) x w) shapeCasts_S1x1024x512_S1024x512
      = codes (prod x (shapeCast S4096x512 w shapeCasts_S1x4096x512_S4096x512)) := shapeCast_shapeCast _ _ _

theorem sentAt_eq (c : Dev nD) (k : Fin 3) : sentAt m c k = codes (prod (xAt m c) (wMat m c k.castSucc)) := by
  match k with
  | 0 => exact (pay2_eq _ _).trans (by rw [wAt_cast]; rfl)
  | 1 => exact (pay3_eq _ _).trans (by rw [wAt_cast]; rfl)
  | 2 => exact (pay4_eq _ _).trans (by rw [wAt_cast]; rfl)

theorem gotAt_cast (c : Dev nD) (k : Fin 3) :
    shapeCast S1024x512 (gotAt m c k) shapeCasts_S1x1024x512_S1024x512 = codes (prod (xAt m (bk c k)) (wMat m (bk c k) k.castSucc)) :=
  (shapeCast_shapeCast _ _ _).trans (sentAt_eq m (bk c k) k)

end Reads

/-! ## One row block -/

theorem pay7_eq (s : EReal) (v : S1x1024x512.Idx → BitVec 16) :
    shapeCast S1024x512 (k0_pay7 (F := Ideal) s v) shapeCasts_S1x1024x512_S1024x512
      = fun i => (((shapeCast S1024x512 v shapeCasts_S1x1024x512_S1024x512 i).toInt : ℝ) : EReal) * (Ideal.ofBits .f32 0x45000000#32 * s) :=
  shapeCast_shapeCast (α := EReal) (s := S1024x512) (t := S1x1024x512) _ _ _
theorem pay8_eq (s : EReal) (v : S1x1024x512.Idx → BitVec 16) :
    shapeCast S1024x512 (k0_pay8 (F := Ideal) s v) shapeCasts_S1x1024x512_S1024x512
      = fun i => (((shapeCast S1024x512 v shapeCasts_S1x1024x512_S1024x512 i).toInt : ℝ) : EReal) * (Ideal.ofBits .f32 0x45000000#32 * s) :=
  shapeCast_shapeCast (α := EReal) (s := S1024x512) (t := S1x1024x512) _ _ _
theorem pay9_eq (s : EReal) (v : S1x1024x512.Idx → BitVec 16) :
    shapeCast S1024x512 (k0_pay9 (F := Ideal) s v) shapeCasts_S1x1024x512_S1024x512
      = fun i => (((shapeCast S1024x512 v shapeCasts_S1x1024x512_S1024x512 i).toInt : ℝ) : EReal) * (Ideal.ofBits .f32 0x45000000#32 * s) :=
  shapeCast_shapeCast (α := EReal) (s := S1024x512) (t := S1x1024x512) _ _ _
theorem pay6_eq (s : EReal) (x : S1024x4096.Idx → BitVec 8) (w : S1x4096x512.Idx → BitVec 8) :
    shapeCast S1024x512 (k0_pay6 (F := Ideal) s x (k0_pay5 (F := Ideal) w) (constantI S1024x512 32 0#32)) shapeCasts_S1x1024x512_S1024x512
      = fun i => (((prod x (shapeCast S4096x512 w shapeCasts_S1x4096x512_S4096x512) i).toInt : ℝ) : EReal) * s :=
  shapeCast_shapeCast (α := EReal) (s := S1024x512) (t := S1x1024x512) _ _ _

variable (m : (ℓ : Loc nD τ sig) → Buf (Elt Ideal) ℓ)

/-- A row block from received codes; -/
theorem outAt_far (c : Dev nD) (k : Fin 3) (i : S1024x512.Idx) :
    outAt m c k.castSucc i
      = (((codes (prod (xAt m (bk c k)) (wMat m (bk c k) k.castSucc)) i).toInt : ℝ) : EReal)
        * (Ideal.ofBits .f32 0x45000000#32 * sclAt m c) := by
  match k with
  | 0 => exact (congrFun (pay7_eq _ _) i).trans (congrArg (fun b : BitVec 16 => ((b.toInt : ℝ) : EReal) * _) (congrFun (gotAt_cast m c 0) i))
  | 1 => exact (congrFun (pay8_eq _ _) i).trans (congrArg (fun b : BitVec 16 => ((b.toInt : ℝ) : EReal) * _) (congrFun (gotAt_cast m c 1) i))
  | 2 => exact (congrFun (pay9_eq _ _) i).trans (congrArg (fun b : BitVec 16 => ((b.toInt : ℝ) : EReal) * _) (congrFun (gotAt_cast m c 2) i))

/-- the device's own. -/
theorem outAt_own (c : Dev nD) (i : S1024x512.Idx) :
    outAt m c 3 i = (((prod (xAt m c) (wMat m c 3) i).toInt : ℝ) : EReal) * sclAt m c := by
  rw [← wAt_cast]
  exact congrFun (pay6_eq _ _ _) i

/-- The one index of a one-element array. -/
def at0 : S1.Idx := fun _ => ⟨0, by decide +revert⟩

theorem eq_at0 (i : S1.Idx) : i = at0 := by
  funext a
  have hs : S1.size a = 1 := by decide +revert
  have h1 := (i a).isLt
  have h2 := (at0 a).isLt
  apply Fin.ext
  show (i a).val = (at0 a).val
  omega

theorem sclAt_eq (c : Dev nD) (A B : S1.Idx → EReal) (hA : m ((c : Thread nD τ).loc main_arg2) = A) (hB : m ((c : Thread nD τ).loc main_arg3) = B) :
    sclAt m c = A at0 * B at0 := by
  subst hA hB
  have h0 : ∀ i, (iblk m c 0 t0_0 : S1.Idx → EReal) i = (m ((c : Thread nD τ).loc main_arg2) : S1.Idx → EReal) at0 := fun i =>
    (congrFun (V_main_arg2 m c) _).trans (congrArg (m ((c : Thread nD τ).loc main_arg2) : S1.Idx → EReal) (eq_at0 _))
  have h1 : ∀ i, (iblk m c 1 t0_0 : S1.Idx → EReal) i = (m ((c : Thread nD τ).loc main_arg3) : S1.Idx → EReal) at0 := fun i =>
    (congrFun (V_main_arg3 m c) _).trans (congrArg (m ((c : Thread nD τ).loc main_arg3) : S1.Idx → EReal) (eq_at0 _))
  exact congrArg₂ (fun a b : EReal => a * b) (h0 _) (h1 _)

/-! ## The whole arrays -/

/-- The result at row `r` and column `n`, from the whole arrays: the sum itself where the row and the column lie on one device,
    elsewhere 2048 times the sum's code; times the two scales. -/
def wire (X : IVec ⟨2, ![4096, 4096]⟩ 8) (W : IVec ⟨2, ![4096, 2048]⟩ 8) (s : EReal) (r : Fin 4096) (n : Fin 2048) : EReal :=
  (if r.val / 1024 = n.val / 512 then ((tot X W r n : ℝ) : EReal) else ((2048 : ℝ) : EReal) * ((((tot X W r n + 1024) / 2048 : ℤ) : ℝ) : EReal)) * s

section Whole
variable (X : IVec ⟨2, ![4096, 4096]⟩ 8) (W : IVec ⟨2, ![4096, 2048]⟩ 8)
  (hX : ∀ (c : Dev nD) (r : Fin 1024) (k : Fin 4096), (xAt m c : S1024x4096.Idx → BitVec 8) (ix2 r k) = X (ix2 (gRow c r) k))
  (hW : ∀ c : Dev nD, (m ((c : Thread nD τ).loc main_arg1) : S4096x2048.Idx → BitVec 8) = W)

include hX hW

theorem tot_blk (c : Dev nD) (j : Fin 4) (r : Fin 1024) (n : Fin 512) :
    tot (xAt m c) (wMat m c j) r n = tot X W (gRow c r) (gCol (wBlk c j) n) :=
  Finset.sum_congr rfl fun k _ => congrArg₂ (fun a b : BitVec 8 => a.toInt * b.toInt) (hX c r k) (congrFun (hW c) _)

theorem mag_blk (c : Dev nD) (j : Fin 4) (r : Fin 1024) (n : Fin 512) :
    mag (xAt m c) (wMat m c j) r n = mag X W (gRow c r) (gCol (wBlk c j) n) :=
  Finset.sum_congr rfl fun k _ => congrArg₂ (fun a b : BitVec 8 => a.toInt.natAbs * b.toInt.natAbs) (hX c r k) (congrFun (hW c) _)

theorem prod_blk (c : Dev nD) (j : Fin 4) (r : Fin 1024) (n : Fin 512) (hS : mag X W (gRow c r) (gCol (wBlk c j) n) < 2 ^ 24) :
    (prod (xAt m c) (wMat m c j) (ix2 r n)).toInt = tot X W (gRow c r) (gCol (wBlk c j) n) :=
  (kernel_dot _ _ _ r n rfl (by rw [mag_blk m X W hX hW]; exact hS)).trans (tot_blk m X W hX hW c j r n)

/-- Every entry of a device's result whose products' magnitudes total below 2^24. -/
theorem result_eq (A B : S1.Idx → EReal) (c : Dev nD) (hA : m ((c : Thread nD τ).loc main_arg2) = A) (hB : m ((c : Thread nD τ).loc main_arg3) = B)
    (f : Buf (Elt Ideal) ((c : Thread nD τ).loc main_v1)) (hf : Blocks m c f) (r : Fin 4096) (n : Fin 512)
    (hS : mag X W r (gCol c n) < 2 ^ 24) :
    (f : S4096x512.Idx → EReal) (ix2 r n) = wire X W (A at0 * B at0) r (gCol c n) := by
  have hc := c.isLt
  have hr := r.isLt
  have hn := n.isLt
  have hnq : (gCol c n).val / 512 = c.val := by show (512 * c.val + n.val) / 512 = c.val; omega
  obtain ⟨j, hj⟩ : ∃ j : Fin 4, (oBlk c j).val = r.val / 1024 :=
    ⟨⟨(c.val + 3 + 4 - r.val / 1024) % 4, Nat.mod_lt _ (by decide)⟩, by
      show (c.val + (3 - (c.val + 3 + 4 - r.val / 1024) % 4)) % 4 = r.val / 1024; omega⟩
  have hrq : r = gRow (oBlk c j) ⟨r.val % 1024, Nat.mod_lt _ (by decide)⟩ := by
    apply Fin.ext
    show r.val = 1024 * (oBlk c j).val + r.val % 1024
    rw [hj]; omega
  generalize hr' : (⟨r.val % 1024, Nat.mod_lt _ (by decide)⟩ : Fin 1024) = r' at hrq
  have hread := hf.read j r' n
  rw [← hrq] at hread
  refine hread.trans ?_
  unfold wire
  rw [hnq]
  rcases (by omega : j.val < 3 ∨ j.val = 3) with hlt | h3
  · obtain ⟨k, rfl⟩ : ∃ k : Fin 3, j = k.castSucc := ⟨⟨j.val, hlt⟩, rfl⟩
    have hk := k.isLt
    have hb : oBlk c k.castSucc = bk c k := by
      apply Fin.ext; rfl
    have hw : wBlk (bk c k) k.castSucc = c := by
      apply Fin.ext; show ((c.val + (3 - k.val)) % 4 + (k.val + 1)) % 4 = c.val; omega
    have hne : r.val / 1024 ≠ c.val := by
      rw [← hj]; show (c.val + (3 - k.val)) % 4 ≠ c.val; omega
    rw [if_neg hne]
    rw [hb] at hrq
    have hp := prod_blk m X W hX hW (bk c k) k.castSucc r' n (by rw [hw, ← hrq]; exact hS)
    rw [hw, ← hrq] at hp
    have hcode : (codes (prod (xAt m (bk c k)) (wMat m (bk c k) k.castSucc)) (ix2 r' n)).toInt = (tot X W r (gCol c n) + 1024) / 2048 := by
      rw [← hp]
      exact code_toInt _ (by rw [hp]; exact lt_of_le_of_lt (natAbs_tot_le X W r (gCol c n)) hS)
    refine (outAt_far m c k (ix2 r' n)).trans ?_
    rw [hcode, ofBits_2048, sclAt_eq m c A B hA hB, ← mul_assoc, mul_comm (((2048 : ℝ)) : EReal)]
  · obtain rfl : j = 3 := Fin.ext h3
    have hb : oBlk c 3 = c := by
      apply Fin.ext; show (c.val + 0) % 4 = c.val; omega
    have hw : wBlk c 3 = c := by
      apply Fin.ext; show (c.val + 4) % 4 = c.val; omega
    rw [if_pos (by rw [← hj, hb])]
    rw [hb] at hrq
    have hp := prod_blk m X W hX hW c 3 r' n (by rw [hw, ← hrq]; exact hS)
    rw [hw, ← hrq] at hp
    refine (outAt_own m c (ix2 r' n)).trans ?_
    rw [hp, sclAt_eq m c A B hA hB]

end Whole

end Cert.Wire

end
-- ==== Proof.Words.lean ====
module

public import proofs.«01_k».proof.Proof.Value

@[expose] public section

/-! Which device a row and a column lie on, and the wire's arithmetic on one sum. -/

set_option maxRecDepth 16384

noncomputable section

namespace Cert.Wire

open Idealize.ShloMosaic Idealize.ShloMosaic.ValueIdx

/-! ## Which device a row and a column lie on -/

/-- The sign of a word; -/
def sgnW (u : BitVec 32) : BitVec 32 := if u = 0 then 0 else if u.msb then -1 else 1
/-- the quotient rounded down, as the host spells it. -/
def fdW (u d : BitVec 32) : BitVec 32 :=
  Scalar.select (IntOp.andi (IntOp.cmpi .ne (sgnW u) (sgnW d)) (IntOp.cmpi .ne (IntOp.remsi .host u d) 0#32))
    (IntOp.subi (IntOp.divsi .host u d) 1#32) (IntOp.divsi .host u d)

theorem fdW_row : ∀ r : Fin 4096, fdW (BitVec.ofNat 32 r.val) 1024#32 = BitVec.ofNat 32 (r.val / 1024) := by decide +kernel
theorem fdW_col : ∀ n : Fin 2048, fdW (BitVec.ofNat 32 n.val) 512#32 = BitVec.ofNat 32 (n.val / 512) := by decide +kernel

/-- The bit saying that a row and a column lie on one device. -/
def stayW (r : Fin 4096) (n : Fin 2048) : BitVec 1 :=
  IntOp.cmpi .eq (fdW (BitVec.ofNat 32 r.val) 1024#32) (fdW (BitVec.ofNat 32 n.val) 512#32)

theorem stayW_eq (r : Fin 4096) (n : Fin 2048) : stayW r n = if r.val / 1024 = n.val / 512 then 1#1 else 0#1 := by
  have h : ∀ a b : Fin 4, IntOp.cmpi .eq (BitVec.ofNat 32 a.val) (BitVec.ofNat 32 b.val) = if a.val = b.val then 1#1 else 0#1 := by decide
  have hr := r.isLt
  have hn := n.isLt
  unfold stayW
  rw [fdW_row, fdW_col]
  exact h ⟨r.val / 1024, by omega⟩ ⟨n.val / 512, by omega⟩

/-! ## Bits -/

theorem of_olt {x y : EReal} (h : Ideal.cmp .olt x y = 1#1) : x < y := by
  unfold Ideal.cmp at h
  by_contra hn
  simp [hn] at h
theorem of_oeq {x y : EReal} (h : Ideal.cmp .oeq x y = 1#1) : x = y := by
  unfold Ideal.cmp at h
  by_contra hn
  simp [hn] at h
theorem ole_of {x y : EReal} (h : x ≤ y) : Ideal.cmp .ole x y = 1#1 := by
  unfold Ideal.cmp
  simp [h]
theorem and_one {a b : BitVec 1} (h : IntOp.andi a b = 1#1) : a = 1#1 ∧ b = 1#1 := by
  revert a b; decide
theorem or_one {a b : BitVec 1} (h : IntOp.ori a b = 1#1) : a = 1#1 ∨ b = 1#1 := by
  revert a b; decide

/-! ## The wire's arithmetic on one sum -/

/-- What the host computes of a sum: itself, or 2048 times its code. -/
theorem wire_word (z : ℤ) (r : Fin 4096) (n : Fin 2048) :
    Scalar.select (stayW r n) ((z : ℝ) : EReal)
        (Ideal.ofBits .f32 0x45000000#32 * Ideal.liftRound Int.floor (Ideal.div ((z : ℝ) : EReal) (Ideal.ofBits .f32 0x45000000#32) + Ideal.ofBits .f32 0x3F000000#32))
      = if r.val / 1024 = n.val / 512 then ((z : ℝ) : EReal) else ((2048 : ℝ) : EReal) * ((((z + 1024) / 2048 : ℤ) : ℝ) : EReal) := by
  have hf : Ideal.liftRound Int.floor (Ideal.div ((z : ℝ) : EReal) (Ideal.ofBits .f32 0x45000000#32) + Ideal.ofBits .f32 0x3F000000#32)
      = ((((z + 1024) / 2048 : ℤ) : ℝ) : EReal) := by
    rw [ofBits_2048, ofBits_half, div_2048, ← EReal.coe_add, ← floor_code]; rfl
  rw [hf, ofBits_2048, stayW_eq]
  unfold Scalar.select
  split <;> rename_i h <;> simp [h]

/-- A sum that is 2048 times a rounded-down quotient is a multiple of 2048. -/
theorem step_word (z : ℤ) (h : ((z : ℝ) : EReal) = Ideal.ofBits .f32 0x45000000#32 * Ideal.liftRound Int.floor (Ideal.div ((z : ℝ) : EReal) (Ideal.ofBits .f32 0x45000000#32))) :
    z = 2048 * (z / 2048) := by
  have hf : Ideal.liftRound Int.floor (Ideal.div ((z : ℝ) : EReal) (Ideal.ofBits .f32 0x45000000#32)) = (((z / 2048 : ℤ) : ℝ) : EReal) := by
    rw [ofBits_2048, div_2048, ← floor_step]; rfl
  rw [hf, ofBits_2048, ← EReal.coe_mul] at h
  have h2 := EReal.coe_injective h
  exact_mod_cast h2

theorem wire_eq_of_step (X : IVec ⟨2, ![4096, 4096]⟩ 8) (W : IVec ⟨2, ![4096, 2048]⟩ 8) (s : EReal) (r : Fin 4096) (n : Fin 2048)
    (h : r.val / 1024 = n.val / 512 ∨ tot X W r n = 2048 * (tot X W r n / 2048)) : wire X W s r n = ((tot X W r n : ℝ) : EReal) * s := by
  unfold wire
  split
  · rfl
  · rename_i hne
    have h2 := h.resolve_left hne
    have h3 : (tot X W r n : ℤ) = 2048 * ((tot X W r n + 1024) / 2048) := by omega
    have h4 : ((tot X W r n : ℤ) : ℝ) = 2048 * (((tot X W r n + 1024) / 2048 : ℤ) : ℝ) := by exact_mod_cast h3
    rw [h4, EReal.coe_mul]

/-- The result is within half a step of the exact one. -/
theorem half_step (z w : ℤ) (s : EReal) (h : |w - z| ≤ 1024) :
    max (((w : ℝ) : EReal) * s - ((z : ℝ) : EReal) * s) (-(((w : ℝ) : EReal) * s - ((z : ℝ) : EReal) * s)) ≤ ((1024 : ℝ) : EReal) * max s (-s) := by
  have hpos : (0 : EReal) < ((1024 : ℝ) : EReal) := by exact_mod_cast (by norm_num : (0 : ℝ) < 1024)
  induction s with
  | bot => simp [EReal.mul_top_of_pos hpos]
  | top => simp [EReal.mul_top_of_pos hpos]
  | coe s =>
    rw [← EReal.coe_mul, ← EReal.coe_mul, ← EReal.coe_sub, ← EReal.coe_neg, ← EReal.coe_neg, ← EReal.coe_strictMono.monotone.map_max,
      ← EReal.coe_strictMono.monotone.map_max, ← EReal.coe_mul]
    refine EReal.coe_le_coe_iff.mpr ?_
    show |(w : ℝ) * s - z * s| ≤ 1024 * |s|
    rw [← sub_mul, abs_mul]
    exact mul_le_mul_of_nonneg_right (by exact_mod_cast h) (abs_nonneg s)

end Cert.Wire

end
-- ==== Proof.Masks.lean ====
module

public import proofs.«01_k».proof.Proof.Words
public import proofs.«01_k».proof.Defs

@[expose] public section

/-! The masks and the bound at an index. -/

set_option maxRecDepth 16384

noncomputable section

namespace Cert.Wire

open Idealize.ShloMosaic Idealize.ShloMosaic.ValueIdx

instance facts_exact_sums : Cert.On_exact_sums.Facts where
  natLt_8_32 := by decide
  bcast_S_S4096x2048 := by decide
  dot_S4096x4096_S4096x2048_S4096x2048_1_0_0_1_n_n_wf := by decide

instance facts_lossless : Cert.On_lossless.Facts where
  natLt_8_32 := by decide
  bcast_S_S4096x2048 := by decide
  dot_S4096x4096_S4096x2048_S4096x2048_1_0_0_1_n_n_wf := by decide

instance facts_half_a_step : Cert.Post_half_a_step.Facts where
  natLt_8_32 := by decide
  bcast_S1_S1x1_1 := by decide
  bcast_S1x1_S4096x2048_0_1 := by decide
  bcast_S_S1 := by decide
  dot_S4096x4096_S4096x2048_S4096x2048_1_0_0_1_n_n_wf := by decide

/-! ## The masks and the bound at an index -/

section At
variable (X : IVec ⟨2, ![4096, 4096]⟩ 8) (W : IVec ⟨2, ![4096, 2048]⟩ 8) (A B : (⟨1, ![1]⟩ : Shape).Idx → EReal) (r : Fin 4096) (n : Fin 2048)

theorem mag_lt_of {M N : Nat} {X : IVec ⟨2, ![M, 4096]⟩ 8} {W : IVec ⟨2, ![4096, N]⟩ 8} {r : Fin M} {n : Fin N} (h : (((mag X W r n : ℕ) : ℝ) : EReal) < Ideal.ofBits .f32 0x4B800000#32) :
    mag X W r n < 2 ^ 24 := by
  rw [ofBits_limit] at h
  have h2 : ((mag X W r n : ℕ) : ℝ) < 16777216 := EReal.coe_lt_coe_iff.mp h
  exact_mod_cast h2

/-- A comparison at an index; -/
theorem cmpf_at {s : Shape} {φ : FTy} (p : CmpFPredicate) (a b : FVec Ideal s φ) (i : s.Idx) : cmpf p a b i = Ideal.cmp p (a i) (b i) := rfl
/-- a constant spread over an array. -/
theorem spread_at {s t : Shape} {φ : FTy} (dims : Fin s.rank → Fin t.rank) (h : s.BroadcastsInDim t dims) (w : BitVec φ.bits) (i : t.Idx) :
    broadcastInDim t dims h (constant (F := Ideal) s φ w) i = Ideal.ofBits φ w := rfl

/-- A one-element array spread over the matrix. -/
theorem scale_at (v : (⟨1, ![1]⟩ : Shape).Idx → EReal) (h : Shape.BroadcastsInDim ⟨2, ![1, 1]⟩ ⟨2, ![4096, 2048]⟩ ![0, 1])
    (h' : Shape.BroadcastsInDim ⟨1, ![1]⟩ ⟨2, ![1, 1]⟩ ![1]) (i : (⟨2, ![4096, 2048]⟩ : Shape).Idx) :
    broadcastInDim ⟨2, ![4096, 2048]⟩ ![0, 1] h (broadcastInDim ⟨2, ![1, 1]⟩ ![1] h' v) i = v at0 := congrArg v (eq_at0 _)
/-- A magnitude. -/
theorem absf_at {s : Shape} {φ : FTy} (a : FVec Ideal s φ) (i : s.Idx) : Host.absf a i = max (a i : EReal) (-(a i : EReal)) := rfl

theorem dot_exact_sums : Cert.On_exact_sums.dot_S4096x4096_S4096x2048_S4096x2048_1_0_0_1_n_n = DotDims.plain 4096 4096 2048 := rfl
theorem dot_lossless : Cert.On_lossless.dot_S4096x4096_S4096x2048_S4096x2048_1_0_0_1_n_n = DotDims.plain 4096 4096 2048 := rfl
theorem dot_half_a_step : Cert.Post_half_a_step.dot_S4096x4096_S4096x2048_S4096x2048_1_0_0_1_n_n = DotDims.plain 4096 4096 2048 := rfl

theorem exact_sums_at (h : Cert.On_exact_sums.fn (F := Ideal) X W A B (ix2 r n) = 1#1) : mag X W r n < 2 ^ 24 := by
  dsimp only [Cert.On_exact_sums.fn] at h
  rw [dot_exact_sums, cmpf_at, spread_at, host_absDot] at h
  exact mag_lt_of (of_olt h)

theorem lossless_at (h : Cert.On_lossless.fn (F := Ideal) X W A B (ix2 r n) = 1#1) :
    mag X W r n < 2 ^ 24 ∧ (r.val / 1024 = n.val / 512 ∨ tot X W r n = 2048 * (tot X W r n / 2048)) := by
  dsimp only [Cert.On_lossless.fn, Cert.On_lossless.fn_part1, Cert.On_lossless.fn_floor_divide, Cert.On_lossless.fn_where] at h
  rw [dot_lossless] at h
  have hm := host_absDot none X W (by decide) r n
  have hd := host_dot none X W (by decide) r n
  generalize Host.dotGeneral (F := Ideal) (DotDims.plain 4096 4096 2048) none (Host.absf (sitofp .f32 (extsi 32 X _))) (Host.absf (sitofp .f32 (extsi 32 W _))) = D at h hm
  generalize Host.dotGeneral (F := Ideal) (DotDims.plain 4096 4096 2048) none (sitofp .f32 (extsi 32 X _)) (sitofp .f32 (extsi 32 W _)) = E at h hd
  have h0 : IntOp.andi (Ideal.cmp .olt (D (ix2 r n)) (Ideal.ofBits .f32 0x4B800000#32))
      (IntOp.ori (stayW r n) (Ideal.cmp .oeq (E (ix2 r n))
          (Ideal.ofBits .f32 0x45000000#32 * Ideal.liftRound Int.floor (Ideal.div (E (ix2 r n)) (Ideal.ofBits .f32 0x45000000#32))))) = 1#1 := h
  rw [hm, hd] at h0
  have h1 := and_one h0
  refine ⟨mag_lt_of (of_olt h1.1), ?_⟩
  rcases or_one h1.2 with h2 | h2
  · left
    rw [stayW_eq] at h2
    by_contra hne
    rw [if_neg hne] at h2
    exact absurd h2 (by decide)
  · right
    exact step_word _ (of_oeq h2)

theorem half_a_step_at (Y : (⟨2, ![4096, 2048]⟩ : Shape).Idx → EReal) (h : Y (ix2 r n) = wire X W (A at0 * B at0) r n) :
    Cert.Post_half_a_step.fn (F := Ideal) X W A B Y (ix2 r n) = 1#1 := by
  have hd := host_dot none X W (by decide) r n
  dsimp only [Cert.Post_half_a_step.fn]
  rw [dot_half_a_step]
  generalize Host.dotGeneral (F := Ideal) (DotDims.plain 4096 4096 2048) none (sitofp .f32 (extsi 32 X _)) (sitofp .f32 (extsi 32 W _)) = E at hd ⊢
  rw [cmpf_at, scale_at, absf_at, subf_apply, mulf_apply, mulf_apply, scale_at, absf_at, spread_at]
  show Ideal.cmp .ole (max (Y (ix2 r n) - E (ix2 r n) * (A at0 * B at0)) (-(Y (ix2 r n) - E (ix2 r n) * (A at0 * B at0))))
        (Ideal.ofBits .f32 0x44800000#32 * max (A at0 * B at0) (-(A at0 * B at0))) = 1#1
  rw [hd, ofBits_1024]
  obtain ⟨w, hw, hy⟩ : ∃ w : ℤ, |w - tot X W r n| ≤ 1024 ∧ Y (ix2 r n) = ((w : ℝ) : EReal) * (A at0 * B at0) := by
    rw [h]
    unfold wire
    split
    · exact ⟨tot X W r n, by simp, rfl⟩
    · refine ⟨2048 * ((tot X W r n + 1024) / 2048), abs_le.mpr ⟨by omega, by omega⟩, ?_⟩
      rw [Int.cast_mul, EReal.coe_mul]; rfl
  rw [hy]
  exact ole_of (half_step (tot X W r n) w (A at0 * B at0) hw)

end At

end Cert.Wire

end
-- ==== Proof.Claims.lean ====
module

public import proofs.«01_k».proof.Proof.Masks
public import proofs.«01_k».proof.Proof.Frames

@[expose] public section

/-! The three claims about values: the kernel against its wire, the kernel against the plain product, and the wire's distance
    from it. -/

set_option maxRecDepth 16384

noncomputable section

namespace Cert.Wire

open Idealize.ShloMosaic Idealize.ShloMosaic.ValueIdx
open Idealize.ShloMosaic.TcCoe
open Idealize.SL.Sem

theorem dot_wire : Cert.WireIdeal.dot_S4096x4096_S4096x2048_S4096x2048_1_0_0_1_n_n = DotDims.plain 4096 4096 2048 := rfl
theorem dot_reference : Cert.ReferenceIdeal.dot_S4096x4096_S4096x2048_S4096x2048_1_0_0_1_n_n = DotDims.plain 4096 4096 2048 := rfl

/-- The wire program's result, by rows and columns. -/
theorem wire_run (m : (ℓ : Loc Cert.WireIdeal.nD Cert.WireIdeal.τ Cert.WireIdeal.sig) → Buf (Elt Ideal) ℓ) (ρ : Dev Cert.WireIdeal.nD → PrngReg)
    (c : Dev Cert.WireIdeal.nD) (X : IVec ⟨2, ![4096, 4096]⟩ 8) (W : IVec ⟨2, ![4096, 2048]⟩ 8) (A B : (⟨1, ![1]⟩ : Shape).Idx → EReal)
    (hX : m ((c.tc : Thread Cert.WireIdeal.nD Cert.WireIdeal.τ).loc Cert.WireIdeal.main_arg0) = X)
    (hW : m ((c.tc : Thread Cert.WireIdeal.nD Cert.WireIdeal.τ).loc Cert.WireIdeal.main_arg1) = W)
    (hA : m ((c.tc : Thread Cert.WireIdeal.nD Cert.WireIdeal.τ).loc Cert.WireIdeal.main_arg2) = A)
    (hB : m ((c.tc : Thread Cert.WireIdeal.nD Cert.WireIdeal.τ).loc Cert.WireIdeal.main_arg3) = B) :
    θ_run (Cert.WireIdeal.defs (F := Ideal)) (onTc (τ := Cert.WireIdeal.τ) (Cert.WireIdeal.main (F := Ideal))) ⟨m, fun _ => 0, ρ⟩ (fun r =>
      (r.2.mem ((c.tc : Thread Cert.WireIdeal.nD Cert.WireIdeal.τ).loc Cert.WireIdeal.main_v21) : (⟨2, ![4096, 2048]⟩ : Shape).Idx → EReal)
          = (fun i => wire X W (A at0 * B at0) (i 0) (i 1))
        ∧ r.2.mem ((c.tc : Thread Cert.WireIdeal.nD Cert.WireIdeal.τ).loc Cert.WireIdeal.main_arg0) = m ((c.tc : Thread Cert.WireIdeal.nD Cert.WireIdeal.τ).loc Cert.WireIdeal.main_arg0)
        ∧ r.2.mem ((c.tc : Thread Cert.WireIdeal.nD Cert.WireIdeal.τ).loc Cert.WireIdeal.main_arg1) = m ((c.tc : Thread Cert.WireIdeal.nD Cert.WireIdeal.τ).loc Cert.WireIdeal.main_arg1)
        ∧ r.2.mem ((c.tc : Thread Cert.WireIdeal.nD Cert.WireIdeal.τ).loc Cert.WireIdeal.main_arg2) = m ((c.tc : Thread Cert.WireIdeal.nD Cert.WireIdeal.τ).loc Cert.WireIdeal.main_arg2)
        ∧ r.2.mem ((c.tc : Thread Cert.WireIdeal.nD Cert.WireIdeal.τ).loc Cert.WireIdeal.main_arg3) = m ((c.tc : Thread Cert.WireIdeal.nD Cert.WireIdeal.τ).loc Cert.WireIdeal.main_arg3)) := by
  refine (θ_run Cert.WireIdeal.defs _ _).mono (fun r h => ⟨?_, (h c).2⟩) (Cert.WireIdeal.Value.run (F := Ideal) m ρ)
  refine (h c).1.trans ?_
  rw [hX, hW, hA, hB, dot_wire]
  funext i
  obtain ⟨p, q, rfl⟩ : ∃ (p : Fin 4096) (q : Fin 2048), i = ix2 p q := ⟨i 0, i 1, eq_ix2 i⟩
  have hd := host_dot none X W (by decide) p q
  generalize Host.dotGeneral (F := Ideal) (DotDims.plain 4096 4096 2048) none (sitofp .f32 (extsi 32 X _)) (sitofp .f32 (extsi 32 W _)) = E at hd ⊢
  rw [mulf_apply, scale_at, mulf_apply]
  show Scalar.select (stayW p q) (E (ix2 p q))
      (Ideal.ofBits .f32 0x45000000#32 * Ideal.liftRound Int.floor (Ideal.div (E (ix2 p q)) (Ideal.ofBits .f32 0x45000000#32) + Ideal.ofBits .f32 0x3F000000#32))
      * (A at0 * B at0) = wire X W (A at0 * B at0) p q
  rw [hd, wire_word]
  rfl

/-- The product of two one-element arrays' numbers. -/
def scale (A B : (⟨1, ![1]⟩ : Shape).Idx → EReal) : EReal := A at0 * B at0

/-- Device `c`'s columns of a whole array; -/
theorem block_cols {α : Type} (c : Fin 4) (v : (⟨2, ![4096, 2048]⟩ : Shape).Idx → α) (r : Fin 4096) (n : Fin 512) :
    Layout.block ⟨2, ![4096, 512]⟩ ⟨2, ![4096, 2048]⟩ 1 4 c v (by decide) (ix2 r n) = v (ix2 r (gCol c n)) := by
  refine congrArg v ?_
  funext b; apply Fin.ext
  match b with
  | ⟨0, _⟩ => rfl
  | ⟨1, _⟩ => show c.val * 512 + n.val = 512 * c.val + n.val; omega

/-- its rows. -/
theorem block_rows {α : Type} (c : Fin 4) (v : (⟨2, ![4096, 4096]⟩ : Shape).Idx → α) (r : Fin 1024) (k : Fin 4096) :
    Layout.block ⟨2, ![1024, 4096]⟩ ⟨2, ![4096, 4096]⟩ 0 4 c v (by decide) (ix2 r k) = v (ix2 (gRow c r) k) := by
  refine congrArg v ?_
  funext b; apply Fin.ext
  match b with
  | ⟨0, _⟩ => show c.val * 1024 + r.val = 1024 * c.val + r.val; omega
  | ⟨1, _⟩ => rfl

/-- The kernel's result, by rows and columns, wherever the products' magnitudes total below 2^24. -/
theorem kernel_run (m : (ℓ : Loc Cert.KernelIdeal.nD Cert.KernelIdeal.τ Cert.KernelIdeal.sig) → Buf (Elt Ideal) ℓ) (ρ : Dev Cert.KernelIdeal.nD → PrngReg)
    (X : IVec ⟨2, ![4096, 4096]⟩ 8) (W : IVec ⟨2, ![4096, 2048]⟩ 8) (A B : (⟨1, ![1]⟩ : Shape).Idx → EReal)
    (hX : ∀ c : Dev Cert.KernelIdeal.nD, m ((c.tc : Thread Cert.KernelIdeal.nD Cert.KernelIdeal.τ).loc Cert.KernelIdeal.main_arg0) = Layout.block ⟨2, ![1024, 4096]⟩ ⟨2, ![4096, 4096]⟩ 0 4 c X)
    (hW : ∀ c : Dev Cert.KernelIdeal.nD, m ((c.tc : Thread Cert.KernelIdeal.nD Cert.KernelIdeal.τ).loc Cert.KernelIdeal.main_arg1) = W)
    (hA : ∀ c : Dev Cert.KernelIdeal.nD, m ((c.tc : Thread Cert.KernelIdeal.nD Cert.KernelIdeal.τ).loc Cert.KernelIdeal.main_arg2) = A)
    (hB : ∀ c : Dev Cert.KernelIdeal.nD, m ((c.tc : Thread Cert.KernelIdeal.nD Cert.KernelIdeal.τ).loc Cert.KernelIdeal.main_arg3) = B) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      (∀ (p : Fin 4096) (q : Fin 512), mag X W p (gCol c q) < 2 ^ 24 →
          (r.2.mem ((c.tc : Thread Cert.KernelIdeal.nD Cert.KernelIdeal.τ).loc Cert.KernelIdeal.main_v1) : (⟨2, ![4096, 512]⟩ : Shape).Idx → EReal) (ix2 p q)
            = wire X W (A at0 * B at0) p (gCol c q))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun r h c =>
    ⟨fun p q hS => result_eq m X W (fun c r k => (congrFun (hX c) (ix2 r k)).trans (block_rows c X r k)) hW A B c (hA c) (hB c) _ (h.1 c).2.2.2 p q hS,
      (h.1 c).2.1, (h.1 c).2.2.1, (h.1 c).1 0, (h.1 c).1 1⟩) (run_main (F := Ideal) m ρ)

/-- The kernel computes its wire, on every entry whose sums are exact. -/
theorem algebraic_wire : Cert.algebraic_KernelIdeal_WireIdeal_on_exact_sums := fun m ρ m' ρ' _ hag => by
  refine ⟨fun i => wire (m' (((0 : Dev Cert.WireIdeal.nD).tc : Thread Cert.WireIdeal.nD Cert.WireIdeal.τ).loc Cert.WireIdeal.main_arg0))
      (m' (((0 : Dev Cert.WireIdeal.nD).tc : Thread Cert.WireIdeal.nD Cert.WireIdeal.τ).loc Cert.WireIdeal.main_arg1))
      (scale (m' (((0 : Dev Cert.WireIdeal.nD).tc : Thread Cert.WireIdeal.nD Cert.WireIdeal.τ).loc Cert.WireIdeal.main_arg2))
        (m' (((0 : Dev Cert.WireIdeal.nD).tc : Thread Cert.WireIdeal.nD Cert.WireIdeal.τ).loc Cert.WireIdeal.main_arg3))) (i 0) (i 1), ?_, ?_⟩
  · refine (θ_run Cert.KernelIdeal.defs _ _).mono (fun r h c => ⟨fun i hi => ?_, (h c).2⟩)
      (kernel_run m ρ _ _ _ _ (fun c => (hag c).1) (fun c => (hag c).2.1) (fun c => (hag c).2.2.1) (fun c => (hag c).2.2.2))
    obtain ⟨p, q, rfl⟩ : ∃ (p : Fin 4096) (q : Fin 512), i = ix2 p q := ⟨i 0, i 1, eq_ix2 i⟩
    have hS := exact_sums_at _ _ _ _ p (gCol c q) ((block_cols c _ p q).symm.trans hi)
    exact ((h c).1 p q hS).trans (block_cols c (fun i => wire _ _ _ (i 0) (i 1)) p q).symm
  · exact (θ_run Cert.WireIdeal.defs _ _).mono (fun r h => ⟨fun i _ => congrFun h.1 i, h.2⟩) (wire_run m' ρ' 0 _ _ _ _ rfl rfl rfl rfl)

/-- The plain product's result, by rows and columns. -/
theorem reference_run (m : (ℓ : Loc Cert.ReferenceIdeal.nD Cert.ReferenceIdeal.τ Cert.ReferenceIdeal.sig) → Buf (Elt Ideal) ℓ) (ρ : Dev Cert.ReferenceIdeal.nD → PrngReg)
    (c : Dev Cert.ReferenceIdeal.nD) (X : IVec ⟨2, ![4096, 4096]⟩ 8) (W : IVec ⟨2, ![4096, 2048]⟩ 8) (A B : (⟨1, ![1]⟩ : Shape).Idx → EReal)
    (hX : m ((c.tc : Thread Cert.ReferenceIdeal.nD Cert.ReferenceIdeal.τ).loc Cert.ReferenceIdeal.main_arg0) = X)
    (hW : m ((c.tc : Thread Cert.ReferenceIdeal.nD Cert.ReferenceIdeal.τ).loc Cert.ReferenceIdeal.main_arg1) = W)
    (hA : m ((c.tc : Thread Cert.ReferenceIdeal.nD Cert.ReferenceIdeal.τ).loc Cert.ReferenceIdeal.main_arg2) = A)
    (hB : m ((c.tc : Thread Cert.ReferenceIdeal.nD Cert.ReferenceIdeal.τ).loc Cert.ReferenceIdeal.main_arg3) = B) :
    θ_run (Cert.ReferenceIdeal.defs (F := Ideal)) (onTc (τ := Cert.ReferenceIdeal.τ) (Cert.ReferenceIdeal.main (F := Ideal))) ⟨m, fun _ => 0, ρ⟩ (fun r =>
      (r.2.mem ((c.tc : Thread Cert.ReferenceIdeal.nD Cert.ReferenceIdeal.τ).loc Cert.ReferenceIdeal.main_v8) : (⟨2, ![4096, 2048]⟩ : Shape).Idx → EReal)
          = (fun i => ((tot X W (i 0) (i 1) : ℝ) : EReal) * (A at0 * B at0))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) := by
  refine (θ_run Cert.ReferenceIdeal.defs _ _).mono (fun r h => ⟨?_, (h c).2⟩) (Cert.ReferenceIdeal.Value.run (F := Ideal) m ρ)
  refine (h c).1.trans ?_
  rw [hX, hW, hA, hB, dot_reference]
  funext i
  obtain ⟨p, q, rfl⟩ : ∃ (p : Fin 4096) (q : Fin 2048), i = ix2 p q := ⟨i 0, i 1, eq_ix2 i⟩
  rw [mulf_apply, scale_at, mulf_apply, host_dot]
  rfl

/-- The kernel computes the plain product, on every entry whose sums are exact and which its wire carries whole. -/
theorem algebraic_reference : Cert.algebraic_KernelIdeal_ReferenceIdeal_on_lossless := fun m ρ m' ρ' _ hag => by
  refine ⟨fun i => ((tot (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) (i 0) (i 1) : ℝ) : EReal)
      * (scale (m' (((0 : Dev Cert.ReferenceIdeal.nD).tc : Thread Cert.ReferenceIdeal.nD Cert.ReferenceIdeal.τ).loc Cert.ReferenceIdeal.main_arg2))
        (m' (((0 : Dev Cert.ReferenceIdeal.nD).tc : Thread Cert.ReferenceIdeal.nD Cert.ReferenceIdeal.τ).loc Cert.ReferenceIdeal.main_arg3))), ?_, ?_⟩
  · refine (θ_run Cert.KernelIdeal.defs _ _).mono (fun r h c => ⟨fun i hi => ?_, (h c).2⟩)
      (kernel_run m ρ _ _ _ _ (fun c => (hag c).1) (fun c => (hag c).2.1) (fun c => (hag c).2.2.1) (fun c => (hag c).2.2.2))
    obtain ⟨p, q, rfl⟩ : ∃ (p : Fin 4096) (q : Fin 512), i = ix2 p q := ⟨i 0, i 1, eq_ix2 i⟩
    have hS := lossless_at _ _ _ _ p (gCol c q) ((block_cols c _ p q).symm.trans hi)
    exact (((h c).1 p q hS.1).trans (wire_eq_of_step _ _ _ p (gCol c q) hS.2)).trans
      (block_cols c (fun i => ((tot _ _ (i 0) (i 1) : ℝ) : EReal) * _) p q).symm
  · exact (θ_run Cert.ReferenceIdeal.defs _ _).mono (fun r h => ⟨fun i _ => congrFun h.1 i, h.2⟩) (reference_run m' ρ' 0 _ _ _ _ rfl rfl rfl rfl)

/-- The wire is within half a step of the plain product, everywhere. -/
theorem holds_half_a_step : Cert.holds_WireIdeal_half_a_step := fun m ρ _ => by
  refine (θ_run Cert.WireIdeal.defs _ _).mono (fun r h c => ?_) (wire_run m ρ 0 _ _ _ _ rfl rfl rfl rfl)
  obtain rfl : c = 0 := Subsingleton.elim _ _
  refine ⟨h.2.1, h.2.2.1, h.2.2.2.1, h.2.2.2.2, ?_⟩
  funext i
  obtain ⟨p, q, rfl⟩ : ∃ (p : Fin 4096) (q : Fin 2048), i = ix2 p q := ⟨i 0, i 1, eq_ix2 i⟩
  exact half_a_step_at _ _ _ _ p q _ (congrFun h.1 (ix2 p q))

end Cert.Wire

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.WireIdeal
public import proofs.«01_k».proof.Proof.Gen.ReferenceIdeal
public import proofs.«01_k».proof.Proof.Gen.ReferenceIdeal.Run
public import proofs.«01_k».proof.Proof.Gen.WireIdeal.Run
public import proofs.«01_k».proof.Proof.Frames
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.WireIdeal.Gen.facts, Cert.ReferenceIdeal.Gen.facts,
    Cert.Wire.facts_half_a_step, Cert.Wire.facts_exact_sums, Cert.Wire.facts_lossless,
    Cert.Wire.frame_kernel, Cert.Wire.frame_kernelIdeal, Cert.Wire.frame_wireIdeal, Cert.Wire.frame_referenceIdeal, trivial,
    Cert.Wire.algebraic_wire, Cert.Wire.algebraic_reference, Cert.Wire.holds_half_a_step⟩

end Cert.Proof

end
